-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S1x256x2x128 Cert.KernelIdeal.S1x256x1x128
  ∧ IdealRules.bf16_pair.Statement Cert.KernelIdeal.S512x128 Cert.KernelIdeal.S256x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_v12_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x7168 : Shape := ⟨3, ![6, 4096, 7168]⟩
abbrev S6x4096x8x256 : Shape := ⟨4, ![6, 4096, 8, 256]⟩
abbrev S6x4096x112 : Shape := ⟨3, ![6, 4096, 112]⟩
abbrev S112 : Shape := ⟨1, ![112]⟩
abbrev S6x112x64x256 : Shape := ⟨4, ![6, 112, 64, 256]⟩
abbrev S6x112x256 : Shape := ⟨3, ![6, 112, 256]⟩
abbrev S6x32768x256 : Shape := ⟨3, ![6, 32768, 256]⟩
abbrev S1x112 : Shape := ⟨2, ![1, 112]⟩
abbrev S6x112x4096 : Shape := ⟨3, ![6, 112, 4096]⟩
abbrev S6x7168x256 : Shape := ⟨3, ![6, 7168, 256]⟩
abbrev S1x256x7168 : Shape := ⟨3, ![1, 256, 7168]⟩
abbrev S1x2048x128 : Shape := ⟨3, ![1, 2048, 128]⟩
abbrev S1x112x4096 : Shape := ⟨3, ![1, 112, 4096]⟩
abbrev S1x7168x256 : Shape := ⟨3, ![1, 7168, 256]⟩
abbrev S1x112x256 : Shape := ⟨3, ![1, 112, 256]⟩
abbrev S1x8x64x256 : Shape := ⟨4, ![1, 8, 64, 256]⟩
abbrev S1x512x256 : Shape := ⟨3, ![1, 512, 256]⟩
abbrev S1x8x256 : Shape := ⟨3, ![1, 8, 256]⟩
abbrev S7168x256 : Shape := ⟨2, ![7168, 256]⟩
abbrev S112x128 : Shape := ⟨2, ![112, 128]⟩
abbrev S8x128 : Shape := ⟨2, ![8, 128]⟩
abbrev S256x128 : Shape := ⟨2, ![256, 128]⟩
abbrev S112x256 : Shape := ⟨2, ![112, 256]⟩
abbrev S128x112 : Shape := ⟨2, ![128, 112]⟩
abbrev S1x1x256 : Shape := ⟨3, ![1, 1, 256]⟩
abbrev S1x256 : Shape := ⟨2, ![1, 256]⟩
abbrev S1x64x256 : Shape := ⟨3, ![1, 64, 256]⟩
abbrev S64x256 : Shape := ⟨2, ![64, 256]⟩
abbrev S1x112x128 : Shape := ⟨3, ![1, 112, 128]⟩
abbrev S112x1 : Shape := ⟨2, ![112, 1]⟩
abbrev S8x112 : Shape := ⟨2, ![8, 112]⟩
abbrev S1x1024x128 : Shape := ⟨3, ![1, 1024, 128]⟩
abbrev S1x256x128 : Shape := ⟨3, ![1, 256, 128]⟩
abbrev S1x1024x2x128 : Shape := ⟨4, ![1, 1024, 2, 128]⟩
abbrev S1x256x2x128 : Shape := ⟨4, ![1, 256, 2, 128]⟩
abbrev S1x256x1x128 : Shape := ⟨4, ![1, 256, 1, 128]⟩
abbrev S256x256 : Shape := ⟨2, ![256, 256]⟩
abbrev S256x128x1 : Shape := ⟨3, ![256, 128, 1]⟩
abbrev S1x256x256 : Shape := ⟨3, ![1, 256, 256]⟩
abbrev S128x256 : Shape := ⟨2, ![128, 256]⟩
abbrev S1x1x64x256 : Shape := ⟨4, ![1, 1, 64, 256]⟩
abbrev S256 : Shape := ⟨1, ![256]⟩

abbrev nBuf : Space → Nat
  | .hbm => 14
  | .vmem => 26
  | .smem => 0
  | _ => 0

abbrev bufTy : (tb : Table) → Fin (tcTables nBuf tb) → BufTy
  | .hbm, ⟨0, _⟩ => ⟨S6x4096x7168, .bf16⟩
  | .hbm, ⟨1, _⟩ => ⟨S6x4096x8x256, .bf16⟩
  | .hbm, ⟨2, _⟩ => ⟨S6x4096x112, .f32⟩
  | .hbm, ⟨3, _⟩ => ⟨S112, .f32⟩
  | .hbm, ⟨4, _⟩ => ⟨S6x112x64x256, .fp8e4m3⟩
  | .hbm, ⟨5, _⟩ => ⟨S6x112x256, .f32⟩
  | .hbm, ⟨6, _⟩ => ⟨S6x112x64x256, .f32⟩
  | .hbm, ⟨7, _⟩ => ⟨S6x32768x256, .bf16⟩
  | .hbm, ⟨8, _⟩ => ⟨S1x112, .f32⟩
  | .hbm, ⟨9, _⟩ => ⟨S6x112x4096, .f32⟩
  | .hbm, ⟨10, _⟩ => ⟨S6x7168x256, .fp8e4m3⟩
  | .hbm, ⟨11, _⟩ => ⟨S6x4096x7168, .bf16⟩
  | .hbm, ⟨12, _⟩ => ⟨S6x7168x256, .fp8e4m3⟩
  | .hbm, ⟨13, _⟩ => ⟨S6x112x256, .f32⟩
  | .local _ .vmem, ⟨0, _⟩ => ⟨S1x112, .f32⟩
  | .local _ .vmem, ⟨1, _⟩ => ⟨S1x256x7168, .bf16⟩
  | .local _ .vmem, ⟨2, _⟩ => ⟨S1x256x7168, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x112x4096, .f32⟩
  | .local _ .vmem, ⟨8, _⟩ => ⟨S1x112x4096, .f32⟩
  | .local _ .vmem, ⟨9, _⟩ => ⟨S1x7168x256, .fp8e4m3⟩
  | .local _ .vmem, ⟨10, _⟩ => ⟨S1x7168x256, .fp8e4m3⟩
  | .local _ .vmem, ⟨11, _⟩ => ⟨S1x112x256, .f32⟩
  | .local _ .vmem, ⟨12, _⟩ => ⟨S1x112x256, .f32⟩
  | .local _ .vmem, ⟨13, _⟩ => ⟨S1x8x64x256, .f32⟩
  | .local _ .vmem, ⟨14, _⟩ => ⟨S1x8x64x256, .f32⟩
  | .local _ .vmem, ⟨15, _⟩ => ⟨S1x256x7168, .bf16⟩
  | .local _ .vmem, ⟨16, _⟩ => ⟨S1x256x7168, .bf16⟩
  | .local _ .vmem, ⟨17, _⟩ => ⟨S1x512x256, .fp8e4m3⟩
  | .local _ .vmem, ⟨18, _⟩ => ⟨S1x512x256, .fp8e4m3⟩
  | .local _ .vmem, ⟨19, _⟩ => ⟨S1x8x256, .f32⟩
  | .local _ .vmem, ⟨20, _⟩ => ⟨S1x8x256, .f32⟩
  | .local _ .vmem, ⟨21, _⟩ => ⟨S7168x256, .bf16⟩
  | .local _ .vmem, ⟨22, _⟩ => ⟨S112x128, .f32⟩
  | .local _ .vmem, ⟨23, _⟩ => ⟨S8x128, .f32⟩
  | .local _ .vmem, ⟨24, _⟩ => ⟨S256x128, .f32⟩
  | .local _ .vmem, ⟨25, _⟩ => ⟨S112x256, .f32⟩
  | _, _ => ⟨S6x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [BitOps F]

abbrev grid0 : Pipeline.Grid := ⟨2, ![6, 16], ![false, false]⟩

def k0_mult1 (i : grid0.Coords) : BitVec 32 :=
  let arg1 : BitVec 32 := BitVec.ofNat 32 (i 1).val
  let c256_i32 : BitVec 32 := 256#32
  let v10 : BitVec 32 := Scalar.muli arg1 c256_i32
  let c0_i32_5 : BitVec 32 := 0#32
  let v11 : BitVec 32 := Scalar.addi v10 c0_i32_5
  v11
def k0_off1 (i : grid0.Coords) (c0_i32_5 : BitVec 32) : Fin 3 → Nat :=
  let c0_6 : Index := 0#32
  let c0_7 : Index := 0#32
  let arg1 : BitVec 32 := BitVec.ofNat 32 (i 1).val
  let c256_i32 : BitVec 32 := 256#32
  let v10 : BitVec 32 := Scalar.muli arg1 c256_i32
  let v11 : BitVec 32 := Scalar.addi v10 c0_i32_5
  let v12 : BitVec 32 := v11
  let v13 : Index := Scalar.indexCast v12
  ![0, 0, v13.toNat]
def k0_mult2 (i : grid0.Coords) : BitVec 32 :=
  let arg1 : BitVec 32 := BitVec.ofNat 32 (i 1).val
  let c256_i32_167 : BitVec 32 := 256#32
  let v451 : BitVec 32 := Scalar.muli arg1 c256_i32_167
  let c128_i32 : BitVec 32 := 128#32
  let v452 : BitVec 32 := Scalar.addi v451 c128_i32
  v452
def k0_cond3 (i : grid0.Coords) : BitVec 1 :=
  let arg1 : BitVec 32 := BitVec.ofNat 32 (i 1).val
  let c14_i32_727 : BitVec 32 := 14#32
  let v1925 : BitVec 1 := Scalar.cmpi .slt arg1 c14_i32_727
  let v1926 : BitVec 32 := Scalar.extui v1925
  let c0_i32_728 : BitVec 32 := 0#32
  let v1927 : BitVec 1 := Scalar.cmpi .ne v1926 c0_i32_728
  v1927

def k0_mult3 (i : grid0.Coords) : BitVec 32 :=
  let arg1 : BitVec 32 := BitVec.ofNat 32 (i 1).val
  let c8_i32_729 : BitVec 32 := 8#32
  let v1928 : BitVec 32 := Scalar.muli arg1 c8_i32_729
  let c0_i32_730 : BitVec 32 := 0#32
  let v1929 : BitVec 32 := Scalar.addi v1928 c0_i32_730
  let c64_i32_731 : BitVec 32 := 64#32
  let v1930 : BitVec 32 := Scalar.muli v1929 c64_i32_731
  v1930
def k0_off2 (i : grid0.Coords) (c0_i32_730 : BitVec 32) : Fin 3 → Nat :=
  let c0_732 : Index := 0#32
  let arg1 : BitVec 32 := BitVec.ofNat 32 (i 1).val
  let c8_i32_729 : BitVec 32 := 8#32
  let v1928 : BitVec 32 := Scalar.muli arg1 c8_i32_729
  let v1929 : BitVec 32 := Scalar.addi v1928 c0_i32_730
  let c64_i32_731 : BitVec 32 := 64#32
  let v1930 : BitVec 32 := Scalar.muli v1929 c64_i32_731
  let v1931 : BitVec 32 := v1930
  let v1932 : Index := Scalar.indexCast v1931
  let c0_733 : Index := 0#32
  ![0, v1932.toNat, 0]
def k0_off3 (i : grid0.Coords) (c0_i32_730 : BitVec 32) : Fin 3 → Nat :=
  let c0_734 : Index := 0#32
  let arg1 : BitVec 32 := BitVec.ofNat 32 (i 1).val
  let c8_i32_729 : BitVec 32 := 8#32
  let v1928 : BitVec 32 := Scalar.muli arg1 c8_i32_729
  let v1929 : BitVec 32 := Scalar.addi v1928 c0_i32_730
  let v1936 : Index := Scalar.indexCast v1929
  let c0_735 : Index := 0#32
  ![0, v1936.toNat, 0]
def k0_off4 (i : grid0.Coords) (c0_i32_730 : BitVec 32) : Fin 2 → Nat :=
  let arg1 : BitVec 32 := BitVec.ofNat 32 (i 1).val
  let c8_i32_729 : BitVec 32 := 8#32
  let v1928 : BitVec 32 := Scalar.muli arg1 c8_i32_729
  let v1929 : BitVec 32 := Scalar.addi v1928 c0_i32_730
  let v1941 : Index := Scalar.indexCast v1929
  let c0_736 : Index := 0#32
  ![v1941.toNat, 0]
def k0_mult4 (i : grid0.Coords) : BitVec 32 :=
  let arg1 : BitVec 32 := BitVec.ofNat 32 (i 1).val
  let c8_i32_773 : BitVec 32 := 8#32
  let v2042 : BitVec 32 := Scalar.muli arg1 c8_i32_773
  let c1_i32_774 : BitVec 32 := 1#32
  let v2043 : BitVec 32 := Scalar.addi v2042 c1_i32_774
  let c64_i32_775 : BitVec 32 := 64#32
  let v2044 : BitVec 32 := Scalar.muli v2043 c64_i32_775
  v2044
def k0_mult5 (i : grid0.Coords) : BitVec 32 :=
  let arg1 : BitVec 32 := BitVec.ofNat 32 (i 1).val
  let c8_i32_820 : BitVec 32 := 8#32
  let v2156 : BitVec 32 := Scalar.muli arg1 c8_i32_820
  let c2_i32_821 : BitVec 32 := 2#32
  let v2157 : BitVec 32 := Scalar.addi v2156 c2_i32_821
  let c64_i32_822 : BitVec 32 := 64#32
  let v2158 : BitVec 32 := Scalar.muli v2157 c64_i32_822
  v2158
def k0_mult6 (i : grid0.Coords) : BitVec 32 :=
  let arg1 : BitVec 32 := BitVec.ofNat 32 (i 1).val
  let c8_i32_867 : BitVec 32 := 8#32
  let v2270 : BitVec 32 := Scalar.muli arg1 c8_i32_867
  let c3_i32 : BitVec 32 := 3#32
  let v2271 : BitVec 32 := Scalar.addi v2270 c3_i32
  let c64_i32_868 : BitVec 32 := 64#32
  let v2272 : BitVec 32 := Scalar.muli v2271 c64_i32_868
  v2272
def k0_mult7 (i : grid0.Coords) : BitVec 32 :=
  let arg1 : BitVec 32 := BitVec.ofNat 32 (i 1).val
  let c8_i32_913 : BitVec 32 := 8#32
  let v2384 : BitVec 32 := Scalar.muli arg1 c8_i32_913
  let c4_i32_914 : BitVec 32 := 4#32
  let v2385 : BitVec 32 := Scalar.addi v2384 c4_i32_914
  let c64_i32_915 : BitVec 32 := 64#32
  let v2386 : BitVec 32 := Scalar.muli v2385 c64_i32_915
  v2386
def k0_mult8 (i : grid0.Coords) : BitVec 32 :=
  let arg1 : BitVec 32 := BitVec.ofNat 32 (i 1).val
  let c8_i32_959 : BitVec 32 := 8#32
  let v2498 : BitVec 32 := Scalar.muli arg1 c8_i32_959
  let c5_i32 : BitVec 32 := 5#32
  let v2499 : BitVec 32 := Scalar.addi v2498 c5_i32
  let c64_i32_960 : BitVec 32 := 64#32
  let v2500 : BitVec 32 := Scalar.muli v2499 c64_i32_960
  v2500
def k0_mult9 (i : grid0.Coords) : BitVec 32 :=
  let arg1 : BitVec 32 := BitVec.ofNat 32 (i 1).val
  let c8_i32_1003 : BitVec 32 := 8#32
  let v2612 : BitVec 32 := Scalar.muli arg1 c8_i32_1003
  let c6_i32_1004 : BitVec 32 := 6#32
  let v2613 : BitVec 32 := Scalar.addi v2612 c6_i32_1004
  let c64_i32_1005 : BitVec 32 := 64#32
  let v2614 : BitVec 32 := Scalar.muli v2613 c64_i32_1005
  v2614
def k0_mult10 (i : grid0.Coords) : BitVec 32 :=
  let arg1 : BitVec 32 := BitVec.ofNat 32 (i 1).val
  let c8_i32_1048 : BitVec 32 := 8#32
  let v2726 : BitVec 32 := Scalar.muli arg1 c8_i32_1048
  let c7_i32 : BitVec 32 := 7#32
  let v2727 : BitVec 32 := Scalar.addi v2726 c7_i32
  let c64_i32_1049 : BitVec 32 := 64#32
  let v2728 : BitVec 32 := Scalar.muli v2727 c64_i32_1049
  v2728
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c13_i32 : BitVec 32 := 13#32
  let v0 : BitVec 32 := Scalar.minsi arg1 c13_i32
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.minsi arg1 c13_i32
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.minsi arg1 c13_i32
  let c0_i32 : BitVec 32 := 0#32
  let c0_i32_0 : BitVec 32 := 0#32
  ![arg0.toNat, v0.toNat, c0_i32.toNat]

abbrev stage0_0 : Fin 1 → Memref sig .tc .vmem S1x112 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x112x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x7168x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x112x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x7168 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
abbrev S512x128 : Shape := ⟨2, ![512, 128]⟩
variable {F : FTy → Type} [FloatOps F]
-- ==== ReferenceIdeal.lean ====
abbrev S6x4096x7168 : Shape := ⟨3, ![6, 4096, 7168]⟩
abbrev S6x4096x8x256 : Shape := ⟨4, ![6, 4096, 8, 256]⟩
abbrev S6x4096x112 : Shape := ⟨3, ![6, 4096, 112]⟩
abbrev S112 : Shape := ⟨1, ![112]⟩
abbrev S6x112x64x256 : Shape := ⟨4, ![6, 112, 64, 256]⟩
abbrev S6x112x256 : Shape := ⟨3, ![6, 112, 256]⟩
abbrev S1x1x112 : Shape := ⟨3, ![1, 1, 112]⟩
abbrev S_ : Shape := ⟨0, ![]⟩
abbrev S6x4096x112x64 : Shape := ⟨4, ![6, 4096, 112, 64]⟩
abbrev S6x8x4096x256 : Shape := ⟨4, ![6, 8, 4096, 256]⟩
abbrev S48x4096x256 : Shape := ⟨3, ![48, 4096, 256]⟩
abbrev S6x1x112 : Shape := ⟨3, ![6, 1, 112]⟩
abbrev S6x112 : Shape := ⟨2, ![6, 112]⟩
abbrev S6x7168x256 : Shape := ⟨3, ![6, 7168, 256]⟩
abbrev S6x112x1x256 : Shape := ⟨4, ![6, 112, 1, 256]⟩
abbrev S48x896x256 : Shape := ⟨3, ![48, 896, 256]⟩
abbrev S48x4096x896 : Shape := ⟨3, ![48, 4096, 896]⟩
abbrev S6x8x4096x14x64 : Shape := ⟨5, ![6, 8, 4096, 14, 64]⟩
abbrev S6x4096x8x14x64 : Shape := ⟨5, ![6, 4096, 8, 14, 64]⟩
abbrev S6x4096x112x1 : Shape := ⟨4, ![6, 4096, 112, 1]⟩
abbrev S6x112x1x1 : Shape := ⟨4, ![6, 112, 1, 1]⟩

abbrev nBuf : Space → Nat
  | .hbm => 24
  | .vmem => 10
  | .smem => 0
  | _ => 0

abbrev bufTy : (tb : Table) → Fin (tcTables nBuf tb) → BufTy
  | .hbm, ⟨0, _⟩ => ⟨S6x4096x7168, .bf16⟩
  | .hbm, ⟨1, _⟩ => ⟨S6x4096x8x256, .bf16⟩
  | .hbm, ⟨2, _⟩ => ⟨S6x4096x112, .f32⟩
  | .hbm, ⟨3, _⟩ => ⟨S112, .f32⟩
  | .hbm, ⟨4, _⟩ => ⟨S6x112x64x256, .fp8e4m3⟩
  | .hbm, ⟨5, _⟩ => ⟨S6x112x256, .f32⟩
  | .hbm, ⟨6, _⟩ => ⟨S6x112x64x256, .f32⟩
  | .hbm, ⟨7, _⟩ => ⟨S112, .f32⟩
  | .hbm, ⟨8, _⟩ => ⟨S112, .f32⟩
  | .hbm, ⟨9, _⟩ => ⟨S1x1x112, .f32⟩
  | .hbm, ⟨10, _⟩ => ⟨S6x4096x112, .f32⟩
  | .hbm, ⟨11, _⟩ => ⟨S6x4096x112, .f32⟩
  | .hbm, ⟨12, _⟩ => ⟨S_, .f32⟩
  | .hbm, ⟨13, _⟩ => ⟨S_, .f32⟩
  | .hbm, ⟨14, _⟩ => ⟨S6x4096x112, .f32⟩
  | .hbm, ⟨15, _⟩ => ⟨S6x4096x112, .f32⟩
  | .hbm, ⟨16, _⟩ => ⟨S6x4096x112x64, .bf16⟩
  | .hbm, ⟨17, _⟩ => ⟨S6x8x4096x256, .bf16⟩
  | .hbm, ⟨18, _⟩ => ⟨S48x4096x256, .bf16⟩
  | .hbm, ⟨19, _⟩ => ⟨S6x1x112, .f32⟩
  | .hbm, ⟨20, _⟩ => ⟨S6x112, .f32⟩
  | .hbm, ⟨21, _⟩ => ⟨S6x4096x7168, .bf16⟩
  | .hbm, ⟨22, _⟩ => ⟨S6x7168x256, .fp8e4m3⟩
  | .hbm, ⟨23, _⟩ => ⟨S6x112x256, .f32⟩
  | .local _ .vmem, ⟨0, _⟩ => ⟨S6x4096x112x64, .bf16⟩
  | .local _ .vmem, ⟨1, _⟩ => ⟨S48x4096x256, .bf16⟩
  | .local _ .vmem, ⟨2, _⟩ => ⟨S6x4096x112, .f32⟩
  | .local _ .vmem, ⟨3, _⟩ => ⟨S6x112, .f32⟩
  | .local _ .vmem, ⟨4, _⟩ => ⟨S6x112x64x256, .fp8e4m3⟩
  | .local _ .vmem, ⟨5, _⟩ => ⟨S6x112x256, .f32⟩
  | .local _ .vmem, ⟨6, _⟩ => ⟨S6x112x64x256, .f32⟩
  | .local _ .vmem, ⟨7, _⟩ => ⟨S6x4096x7168, .bf16⟩
  | .local _ .vmem, ⟨8, _⟩ => ⟨S6x7168x256, .fp8e4m3⟩
  | .local _ .vmem, ⟨9, _⟩ => ⟨S6x112x256, .f32⟩
  | _, _ => ⟨S6x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_call0_cst : Ref sig .tc := ⟨.hbm, 12, rfl⟩
abbrev main_call0_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x4096x112x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x4096x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x112x64x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x112x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x112x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x4096x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x7168x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x112x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelFrame.lean ====
/- The frame of the kernel at any values: its body is run once for all its branch cases, naming nothing of the outputs. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 16 % 6 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_1 : ∀ t : Fin cfg0.N, cond0_1 (grid0.coords t) ↔ t.val % 16 = 0 :=
  (fun t => by
    have ht : t.val < 96 := Nat.lt_of_lt_of_eq t.isLt N_0
    have e0 : (grid0.coords t 0).val = t.val / 16 % 6 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 16 = 0)

/-- The condition of the body's `scf.if` 2 (`k0_h3`), from the grid coordinates (the skeleton's scalar
    chain substituted). -/
abbrev cond0_2 (i : grid0.Coords) : Prop := k0_cond3 i = 1#1
/-- It holds at the points whose coordinates have i1 ≤ 13 — decided over the grid. -/
theorem hcond0_2 : ∀ t : Fin cfg0.N, cond0_2 (grid0.coords t) ↔ t.val % 16 ≤ 13 :=
  (by decide +kernel : ∀ t : Fin grid0.N, cond0_2 (grid0.coords t) ↔ t.val % 16 ≤ 13)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
/-! ## The buffers of a point -/

/-- Each window's current staging memref at point `t`, spelled as the pipeline passes it (`bodyAt0`), and its wholeness. -/
abbrev ms0_0 (t : Fin cfg0.N) : Memref sig .tc .vmem S1x112 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x112x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7168x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x112x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x64x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x7168 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x256 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x256 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S7168x256 .bf16 := Memref.whole cc0_scratch0
abbrev scM0_1 : Memref sig .tc .vmem S112x128 .f32 := Memref.whole cc0_scratch1
abbrev scM0_2 : Memref sig .tc .vmem S8x128 .f32 := Memref.whole cc0_scratch2
abbrev scM0_3 : Memref sig .tc .vmem S256x128 .f32 := Memref.whole cc0_scratch3
abbrev scM0_4 : Memref sig .tc .vmem S112x256 .f32 := Memref.whole cc0_scratch4
/-- The frame kit's invariant with the scratch operands as memrefs owned at some contents . -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The body, in every case -/

set_option maxHeartbeats 25600000 in
/-- The body run from any contents, whichever of its three conditionals are taken: the inputs end as they were, the
    outputs and the scratch at some contents. -/
theorem body_run (c : Dev nD) (i : grid0.Coords) (arg2 : Memref sig .tc .vmem S1x112 .f32) (harg2 : arg2.IsWhole) (arg3 : Memref sig .tc .vmem S1x256x7168 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x112x4096 .f32) (harg6 : arg6.IsWhole) (arg7 : Memref sig .tc .vmem S1x7168x256 .fp8e4m3) (harg7 : arg7.IsWhole) (arg8 : Memref sig .tc .vmem S1x112x256 .f32) (harg8 : arg8.IsWhole) (arg9 : Memref sig .tc .vmem S1x8x64x256 .f32) (harg9 : arg9.IsWhole) (arg10 : Memref sig .tc .vmem S1x256x7168 .bf16) (harg10 : arg10.IsWhole) (arg11 : Memref sig .tc .vmem S1x512x256 .fp8e4m3) (harg11 : arg11.IsWhole) (arg12 : Memref sig .tc .vmem S1x8x256 .f32) (harg12 : arg12.IsWhole) (arg13 : Memref sig .tc .vmem S7168x256 .bf16) (harg13 : arg13.IsWhole) (arg14 : Memref sig .tc .vmem S112x128 .f32) (harg14 : arg14.IsWhole) (arg15 : Memref sig .tc .vmem S8x128 .f32) (harg15 : arg15.IsWhole) (arg16 : Memref sig .tc .vmem S256x128 .f32) (harg16 : arg16.IsWhole) (arg17 : Memref sig .tc .vmem S112x256 .f32) (harg17 : arg17.IsWhole)
    (x0 : Vec F S1x112 .f32) (x1 : Vec F S1x256x7168 .bf16) (x2 : Vec F S1x2048x128 .bf16) (x3 : Vec F S1x2048x128 .bf16) (x4 : Vec F S1x112x4096 .f32) (x5 : Vec F S1x7168x256 .fp8e4m3) (x6 : Vec F S1x112x256 .f32) (x7 : Vec F S1x8x64x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_carry_correction i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_carry_correction_eq_skeleton]; unfold cc0_carry_correction_skel
  simp only [k0_part112_eq_skeleton, k0_part65_eq_skeleton, k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part64_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  by_cases hc0 : cond0_0 i <;> by_cases hc1 : cond0_1 i <;> by_cases hc2 : cond0_2 i <;>
  ( sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl)

/-! ## The pipeline's proof data -/

/-- The output windows, all of them: this frame names nothing of what the kernel leaves in them. -/
def forgets0 : Fin 11 → Bool := fun w => w.val == 8 || w.val == 9 || w.val == 10

/-- The proof data: the arrays as the region finds them; each input's buffer at its block after every point; the outputs
    forgotten; every scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant, before the first point and after the last. -/
theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

/-- The argument arrays after any run whose data names the inputs. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 6 rfl).trans ((hA c 6).trans (V_main_arg5 m c)),
      (Pipeline.RDat.FramePost.arr_in h c 7 rfl).trans ((hA c 7).trans (V_main_arg6 m c))⟩) h

/-! ## The run and the frame -/

set_option backward.isDefEq.respectTransparency.types false in
/-- The launch, with every semaphore counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- Every execution ends with the input arrays as the region found them. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame of the kernel: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.Conds.lean ====
/- The idealized body's branch conditions at each point of the grid, and the buffers a point works on. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 16 % 6 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_1 : ∀ t : Fin cfg0.N, cond0_1 (grid0.coords t) ↔ t.val % 16 = 0 :=
  (fun t => by
    have ht : t.val < 96 := Nat.lt_of_lt_of_eq t.isLt N_0
    have e0 : (grid0.coords t 0).val = t.val / 16 % 6 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 16 = 0)

/-- The condition of the body's `scf.if` 2 (`k0_h3`), from the grid coordinates (the skeleton's scalar
    chain substituted). -/
abbrev cond0_2 (i : grid0.Coords) : Prop := k0_cond3 i = 1#1
/-- It holds at the points whose coordinates have i1 ≤ 13 — decided over the grid. -/
theorem hcond0_2 : ∀ t : Fin cfg0.N, cond0_2 (grid0.coords t) ↔ t.val % 16 ≤ 13 :=
  (by decide +kernel : ∀ t : Fin grid0.N, cond0_2 (grid0.coords t) ↔ t.val % 16 ≤ 13)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
/-! ## The buffers of a point -/

/-- Each window's current staging memref at point `t`, spelled as the pipeline passes it (`bodyAt0`), and its wholeness. -/
abbrev ms0_0 (t : Fin cfg0.N) : Memref sig .tc .vmem S1x112 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x112x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7168x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x112x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x64x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x7168 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x256 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x256 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S7168x256 .bf16 := Memref.whole cc0_scratch0
abbrev scM0_1 : Memref sig .tc .vmem S112x128 .f32 := Memref.whole cc0_scratch1
abbrev scM0_2 : Memref sig .tc .vmem S8x128 .f32 := Memref.whole cc0_scratch2
abbrev scM0_3 : Memref sig .tc .vmem S256x128 .f32 := Memref.whole cc0_scratch3
abbrev scM0_4 : Memref sig .tc .vmem S112x256 .f32 := Memref.whole cc0_scratch4
/-- The frame kit's invariant with the scratch operands as memrefs owned at some contents . -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.Cuts.lean ====
/- The kernel body's instruction text, cut into the stretches the value proof runs one at a time, and how a buffer is held. -/
module

public import proofs.«01_k».proof.Proof.Conds
public import Idealize.ShloMosaic.Lib.Tactic.Stretches

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/- The whole body: everything up to the last tile of `y`, its store, and the conditional quantisation. -/
cut_chain r := Cert.KernelIdeal.Gen.cc0_carry_correction_skel at 2, 4

/- Everything before: the two set-up branches with the first loads, the running sums with their decays, the tiles of `y`. -/
cut_chain q := Cert.KernelIdeal.Gen.k0_part112_skel at 2, 23

/-- The whole buffer `m`, held at the contents `x`. -/
abbrev held (c : Dev nD) {s : Shape} {e : EltTy} (m : Memref sig .tc .vmem s e) (h : m.IsWhole) (x : s.Idx → Elt F e) : sProp 𝕄 :=
  m.view.loc (c : Thread nD τ) ↦[m.view.set]{fullShare} h.unread x

end Cert.KernelIdeal.Hand

end
-- ==== Proof.SetupRun.lean ====
/- The set-up branch run: the table of scaled codes, the zeroed carry and the decay of the whole sequence. -/
module

public import proofs.«01_k».proof.Proof.Cuts

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x112 .f32) (harg2 : arg2.IsWhole) (arg3 : Memref sig .tc .vmem S1x256x7168 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x112x4096 .f32) (harg6 : arg6.IsWhole) (arg7 : Memref sig .tc .vmem S1x7168x256 .fp8e4m3) (harg7 : arg7.IsWhole) (arg8 : Memref sig .tc .vmem S1x112x256 .f32) (harg8 : arg8.IsWhole) (arg9 : Memref sig .tc .vmem S1x8x64x256 .f32) (harg9 : arg9.IsWhole) (arg10 : Memref sig .tc .vmem S1x256x7168 .bf16) (harg10 : arg10.IsWhole) (arg11 : Memref sig .tc .vmem S1x512x256 .fp8e4m3) (harg11 : arg11.IsWhole) (arg12 : Memref sig .tc .vmem S1x8x256 .f32) (harg12 : arg12.IsWhole) (arg13 : Memref sig .tc .vmem S7168x256 .bf16) (harg13 : arg13.IsWhole) (arg14 : Memref sig .tc .vmem S112x128 .f32) (harg14 : arg14.IsWhole) (arg15 : Memref sig .tc .vmem S8x128 .f32) (harg15 : arg15.IsWhole) (arg16 : Memref sig .tc .vmem S256x128 .f32) (harg16 : arg16.IsWhole) (arg17 : Memref sig .tc .vmem S112x256 .f32) (harg17 : arg17.IsWhole)

set_option maxHeartbeats 4000000 in
/-- What the set-up branch stores into the table and into the carry, and the column it returns. -/
noncomputable def setupRun (x4 : Vec F S1x112x4096 .f32) (x5 : Vec F S1x7168x256 .fp8e4m3) (x6 : Vec F S1x112x256 .f32) (xa : Vec F S112x128 .f32) :
    Σ' (LW : List (View.Piece (Elt F) S7168x256 .bf16)) (LC : List (View.Piece (Elt F) S8x128 .f32)), { v : FVec F S112x1 .f32 //
      ∀ (w : Vec F S7168x256 .bf16) (cv : Vec F S8x128 .f32) (E : Set ℕ) (K : FVec F S112x1 .f32 → sProp 𝕄),
        iprop(held c arg6 harg6 x4 ∗ held c arg7 harg7 x5 ∗ held c arg8 harg8 x6 ∗ held c arg13 harg13 w ∗ held c arg14 harg14 xa ∗ held c arg15 harg15 cv
            ∗ (iprop(held c arg6 harg6 x4 ∗ held c arg7 harg7 x5 ∗ held c arg8 harg8 x6
                ∗ (arg13.view.loc (c : Thread nD τ) ↦[arg13.view.set]{fullShare} arg13.view.writes (Elt F) (harg13.unread w) LW)
                ∗ held c arg14 harg14 xa
                ∗ (arg15.view.loc (c : Thread nD τ) ↦[arg15.view.set]{fullShare} arg15.view.writes (Elt F) (harg15.unread cv) LC)) -∗ K v))
          ⊢ wp frame (wpE (defs₀ (F := F)) Variants.none c none) E (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun w cv E K => ?run⟩
  case run =>
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold k0_part42_skel
    iintro ⟨H4, H5, H6, HW, HA, HC, Hk⟩
    sl_exec
    sl_step
    iapply Hk
    isplitl [H4]; · iexact H4
    isplitl [H5]; · iexact H5
    isplitl [H6]; · iexact H6
    isplitl [HW]; · iexact HW
    isplitl [HA]; · iexact HA
    iexact HC

end Cert.KernelIdeal.Hand

end
-- ==== Proof.Base.lean ====
/- Small facts the readings share: where a rectangle puts an index, a store over a whole buffer, and the terms summed. -/
module

public import proofs.«01_k».proof.Proof.Cuts
public import Idealize.ShloMosaic.Lib.Pointwise

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Pointwise

variable {F : FTy → Type} [FloatOps F]

local notation "𝕄" => MT nD τ sig Unit (Elt F) ℕ (UR sig nD τ) ℕ

/-- Where a unit-stride rectangle puts an index, axis by axis. -/
theorem emb_unit_val {s : Shape} (off size : Fin s.rank → ℕ) (inb) (x : (Rect.unit (s := s) off size inb).shape.Idx) (a : Fin s.rank) :
    ((Rect.unit (s := s) off size inb).emb x a).val = off a + (x a).val := by
  simp [Rect.emb_apply]

/-- A single store over the whole of a buffer leaves its payload. -/
theorem writes_whole {sp : Space} {S : Shape} {e : EltTy} (m : Memref sig .tc sp S e) (hm : m.IsWhole) (f : m.view.ty.Contents (Elt F)) (off : Fin S.rank → ℕ)
    (inb : ∀ a, off a + S.size a ≤ S.size a) (X : S.Idx → Elt F e) :
    m.view.writes (Elt F) f [⟨Rect.unit (s := S) off S.size inb, X⟩] = hm.unread X := by
  have h0 : off = fun _ => 0 := funext fun a => by have := inb a; omega
  subst h0
  refine hm.eq_unread (funext fun y => ?_)
  rw [View.read_writes_apply_eq_canon _ _ _ _ ⟨_, List.mem_singleton_self _, View.mem_set_unit_zero rfl inb y⟩, View.canon_unit_zero rfl]

/-- Step `s` of head `h` times the head's rate. -/
noncomputable def dA (x4 : Vec Ideal S1x112x4096 .f32) (A : Fin 112 → EReal) (h : Fin 112) (s : ℕ) : EReal :=
  if hs : s < 4096 then x4 (ix3 0 h ⟨s, hs⟩) * A h else 0

theorem dA_of (x4 : Vec Ideal S1x112x4096 .f32) (A : Fin 112 → EReal) (h : Fin 112) (s : ℕ) (hs : s < 4096) :
    x4 (ix3 0 h ⟨s, hs⟩) * A h = dA x4 A h s := by
  rw [dA, dif_pos hs]

/-- The whole sequence's sum, in lanes of 32 tiles. -/
theorem sum_lanes (f : ℕ → EReal) : ∑ s ∈ Finset.range 4096, f s = ∑ l : Fin 128, ∑ k ∈ Finset.range 32, f (128 * k + l.val) := by
  rw [Finset.sum_range, Fin.sum_univ_tiles 32 128 rfl, Finset.sum_comm]
  refine Finset.sum_congr rfl fun l _ => ?_
  rw [Finset.sum_range]
  refine Finset.sum_congr rfl fun k _ => ?_
  exact congrArg f (by simp only []; omega)

end Cert.KernelIdeal.Hand

end
-- ==== Proof.SetupVal.lean ====
/- What the set-up branch leaves, element by element: the table of scaled codes, the zeroed carry, the decay of the sequence. -/
module

public import proofs.«01_k».proof.Proof.SetupRun
public import proofs.«01_k».proof.Proof.Base

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x112 .f32) (harg2 : arg2.IsWhole) (arg3 : Memref sig .tc .vmem S1x256x7168 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x112x4096 .f32) (harg6 : arg6.IsWhole) (arg7 : Memref sig .tc .vmem S1x7168x256 .fp8e4m3) (harg7 : arg7.IsWhole) (arg8 : Memref sig .tc .vmem S1x112x256 .f32) (harg8 : arg8.IsWhole) (arg9 : Memref sig .tc .vmem S1x8x64x256 .f32) (harg9 : arg9.IsWhole) (arg10 : Memref sig .tc .vmem S1x256x7168 .bf16) (harg10 : arg10.IsWhole) (arg11 : Memref sig .tc .vmem S1x512x256 .fp8e4m3) (harg11 : arg11.IsWhole) (arg12 : Memref sig .tc .vmem S1x8x256 .f32) (harg12 : arg12.IsWhole) (arg13 : Memref sig .tc .vmem S7168x256 .bf16) (harg13 : arg13.IsWhole) (arg14 : Memref sig .tc .vmem S112x128 .f32) (harg14 : arg14.IsWhole) (arg15 : Memref sig .tc .vmem S8x128 .f32) (harg15 : arg15.IsWhole) (arg16 : Memref sig .tc .vmem S256x128 .f32) (harg16 : arg16.IsWhole) (arg17 : Memref sig .tc .vmem S112x256 .f32) (harg17 : arg17.IsWhole)

open Pointwise

theorem wInb (h : Fin 112) (a : Fin S7168x256.rank) : (![64 * h.val, 0] : Fin 2 → ℕ) a + S64x256.size a ≤ S7168x256.size a := by
  fin_cases a <;> simp [Shape.size] <;> omega

/-- The `h`-th store into the table: the codes of head `h` times their scales. -/
noncomputable def wPiece (x5 : Vec F S1x7168x256 .fp8e4m3) (x6 : Vec F S1x112x256 .f32) (h : Fin 112) : View.Piece (Elt F) S7168x256 .bf16 :=
  ⟨Rect.unit (s := S7168x256) ![64 * h.val, 0] S64x256.size (wInb h),
    k0_pay3 (View.readAt (Elt F) arg8.view (Rect.unit (s := S1x112x256) ![0, h.val, 0] S1x1x256.size (by intro a; fin_cases a <;> simp [Shape.size] <;> omega)).toLoadRect (harg8.unread x6))
      (View.readAt (Elt F) arg7.view (Rect.unit (s := S1x7168x256) ![0, 64 * h.val, 0] S1x64x256.size (by intro a; fin_cases a <;> simp [Shape.size] <;> omega)).toLoadRect (harg7.unread x5))⟩

theorem setup_pieces (x4 : Vec F S1x112x4096 .f32) (x5 : Vec F S1x7168x256 .fp8e4m3) (x6 : Vec F S1x112x256 .f32) (xa : Vec F S112x128 .f32) :
    (setupRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 xa).1 = (List.finRange 112).reverse.map (wPiece arg7 harg7 arg8 harg8 x5 x6) := rfl

/-- The table of scaled codes. -/
noncomputable def wTab (x5 : Vec Ideal S1x7168x256 .fp8e4m3) (x6 : Vec Ideal S1x112x256 .f32) : Vec Ideal S7168x256 .bf16 := fun y =>
  x5 (ix3 0 (y 0) (y 1)) * x6 (ix3 0 ⟨(y 0).val / 64, by have : (y 0).val < 7168 := (y 0).isLt; omega⟩ (y 1))

theorem setup_w (x4 : Vec Ideal S1x112x4096 .f32) (x5 : Vec Ideal S1x7168x256 .fp8e4m3) (x6 : Vec Ideal S1x112x256 .f32) (xa : Vec Ideal S112x128 .f32) (f : arg13.view.ty.Contents (Elt Ideal)) :
    arg13.view.writes (Elt Ideal) f (setupRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 xa).1 = harg13.unread (wTab x5 x6) := by
  refine harg13.eq_unread (funext fun y => ?_)
  have hy : (y 0).val < 7168 := (y 0).isLt
  have hy1 : (y 1).val < 256 := (y 1).isLt
  have hcov : ∃ p ∈ (setupRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 xa).1, y ∈ p.1.set := by
    rw [setup_pieces]
    have hm : y ∈ (Rect.unit (s := S7168x256) ![64 * ((y 0).val / 64), 0] S64x256.size (by intro a; fin_cases a <;> simp [Shape.size] <;> omega)).set := by
      refine Rect.mem_set_unit.2 fun a => ?_
      fin_cases a <;> simp [Shape.size] <;> omega
    exact ⟨_, List.mem_map.2 ⟨⟨(y 0).val / 64, by omega⟩, by simp, rfl⟩, hm⟩
  rw [View.read_writes_apply_eq_canon _ _ _ _ hcov]
  refine View.canon_apply_of_pieces (wTab x5 x6) _ ?_ y hcov
  rw [setup_pieces]
  intro p hp
  obtain ⟨h, -, rfl⟩ := List.mem_map.1 hp
  intro x
  have h0 : (x 0).val < 64 := (x 0).isLt
  have e0 : ((wPiece arg7 harg7 arg8 harg8 x5 x6 h).1.emb x 0).val = 64 * h.val + (x 0).val := emb_unit_val _ _ (wInb h) x 0
  have e1 : ((wPiece arg7 harg7 arg8 harg8 x5 x6 h).1.emb x 1).val = (x 1).val := (emb_unit_val _ _ (wInb h) x 1).trans (Nat.zero_add _)
  have hG : wTab x5 x6 ((wPiece arg7 harg7 arg8 harg8 x5 x6 h).1.emb x) = x5 (ix3 0 ⟨64 * h.val + (x 0).val, by omega⟩ (x 1)) * x6 (ix3 0 h (x 1)) :=
    congrArg₂ (· * ·) (congrArg x5 (congrArg₂ (ix3 0) (Fin.ext e0) (Fin.ext e1)))
      (congrArg x6 (congrArg₂ (ix3 0) (Fin.ext (by show _ / 64 = _; rw [e0]; omega)) (Fin.ext e1)))
  rw [hG]
  simp only [wPiece, View.readAt_eq_ld, Memref.IsWhole.read_unread]
  pointwise [k0_pay3]

set_option maxHeartbeats 1000000 in
theorem setup_c (x4 : Vec Ideal S1x112x4096 .f32) (x5 : Vec Ideal S1x7168x256 .fp8e4m3) (x6 : Vec Ideal S1x112x256 .f32) (xa : Vec Ideal S112x128 .f32) (f : arg15.view.ty.Contents (Elt Ideal)) :
    arg15.view.writes (Elt Ideal) f (setupRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 xa).2.1 = harg15.unread (fun _ => 0) := by
  refine (writes_whole arg15 harg15 f _ inb_S8x128_S8x128_0_0 (k0_pay115 (F := Ideal))).trans (congrArg harg15.unread (funext fun y => ?_))
  pointwise [k0_pay115]

theorem setup_f (x4 : Vec Ideal S1x112x4096 .f32) (x5 : Vec Ideal S1x7168x256 .fp8e4m3) (x6 : Vec Ideal S1x112x256 .f32) (A : Fin 112 → EReal) :
    (setupRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 (fun y => A (y 0))).2.2.1 = fun y => Ideal.exp (∑ s ∈ Finset.range 4096, dA x4 A (y 0) s) := by
  funext y
  show k0_pay121 _ (k0_pay120 _ (k0_pay119 _ (k0_pay117 _ (k0_pay116 _ _ _ _ _) _ _ _ _ _ _ _ _) (k0_pay118 _ _) _ _ _ _ _ _ _ _) _ _ _ _ _ _ _ _ _) _ _ y = _
  simp only [setupRun.sl.r, View.readAt_eq_ld, Memref.IsWhole.read_unread]
  pointwise [k0_pay116, k0_pay117, k0_pay118, k0_pay119, k0_pay120, k0_pay121]
  rw [sum_lanes]
  refine congrArg _ (Finset.sum_congr rfl fun l _ => ?_)
  simp only [Finset.sum_range_succ, Finset.sum_range_zero, zero_add, Nat.reduceMul]
  iterate 31 refine congrArg₂ (· + ·) ?_ (dA_of _ _ _ _ _)
  exact dA_of _ _ _ _ _

end Cert.KernelIdeal.Hand

end
-- ==== Proof.SumsRun.lean ====
/- The running sums of one block of tokens, run: what is stored as their decays and what is carried on. -/
module

public import proofs.«01_k».proof.Proof.Cuts

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x112 .f32) (harg2 : arg2.IsWhole) (arg3 : Memref sig .tc .vmem S1x256x7168 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x112x4096 .f32) (harg6 : arg6.IsWhole) (arg7 : Memref sig .tc .vmem S1x7168x256 .fp8e4m3) (harg7 : arg7.IsWhole) (arg8 : Memref sig .tc .vmem S1x112x256 .f32) (harg8 : arg8.IsWhole) (arg9 : Memref sig .tc .vmem S1x8x64x256 .f32) (harg9 : arg9.IsWhole) (arg10 : Memref sig .tc .vmem S1x256x7168 .bf16) (harg10 : arg10.IsWhole) (arg11 : Memref sig .tc .vmem S1x512x256 .fp8e4m3) (harg11 : arg11.IsWhole) (arg12 : Memref sig .tc .vmem S1x8x256 .f32) (harg12 : arg12.IsWhole) (arg13 : Memref sig .tc .vmem S7168x256 .bf16) (harg13 : arg13.IsWhole) (arg14 : Memref sig .tc .vmem S112x128 .f32) (harg14 : arg14.IsWhole) (arg15 : Memref sig .tc .vmem S8x128 .f32) (harg15 : arg15.IsWhole) (arg16 : Memref sig .tc .vmem S256x128 .f32) (harg16 : arg16.IsWhole) (arg17 : Memref sig .tc .vmem S112x256 .f32) (harg17 : arg17.IsWhole)

set_option maxHeartbeats 4000000 in
/-- What the running sums store into the decays and into the carry. -/
noncomputable def sumsRun (x4 : Vec F S1x112x4096 .f32) (xa : Vec F S112x128 .f32)
    (v8 : IVec S8x112 32) (v9 : Vec F S8x112 .f32) (v18 : FVec F S128x112 .f32) (v31 : FVec F S8x112 .f32) (v33 : IVec S8x112 1) (v34 : FVec F S8x112 .f32) :
    Σ' (LD : List (View.Piece (Elt F) S256x128 .f32)), { LC : List (View.Piece (Elt F) S8x128 .f32) //
      ∀ (d : Vec F S256x128 .f32) (cv : Vec F S8x128 .f32) (E : Set ℕ) {R : Type} (κ : IVec S256x128 32 → BitVec 32 → IVec S256x128 32 → IVec S256x128 32 → BitVec 1 → Prog (TpuEff nD τ sig (Elt F) Λ₀ .tc) R) (K : R → sProp 𝕄),
        iprop(held c arg6 harg6 x4 ∗ held c arg14 harg14 xa ∗ held c arg15 harg15 cv ∗ held c arg16 harg16 d
            ∗ (iprop(held c arg6 harg6 x4 ∗ held c arg14 harg14 xa
                ∗ (arg15.view.loc (c : Thread nD τ) ↦[arg15.view.set]{fullShare} arg15.view.writes (Elt F) (harg15.unread cv) LC)
                ∗ (arg16.view.loc (c : Thread nD τ) ↦[arg16.view.set]{fullShare} arg16.view.writes (Elt F) (harg16.unread d) LD))
              -∗ wp frame (wpE (defs₀ (F := F)) Variants.none c none) E (κ (iota .tc S256x128 32 [1] iota_S256x128_d1_w32) 64#32 k0_pay328 k0_pay329 (Scalar.cmpi .sgt 64#32 0#32)) K))
          ⊢ wp frame (wpE (defs₀ (F := F)) Variants.none c none) E (q2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) v8 v9 v18 v31 v33 v34 κ) K } := by
  refine ⟨?_, ?_, fun d cv E R κ K => ?run⟩
  case run =>
    unfold q2
    simp only [k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]
    iintro ⟨H4, HA, HC, HD, Hk⟩
    sl_exec
    iapply Hk
    isplitl [H4]; · iexact H4
    isplitl [HA]; · iexact HA
    isplitl [HC]; · iexact HC
    iexact HD

end Cert.KernelIdeal.Hand

end
-- ==== Proof.SumsVal.lean ====
/- What the running sums leave, element by element: the decay of every token and the carry. -/
module

public import proofs.«01_k».proof.Proof.SumsRun
public import proofs.«01_k».proof.Proof.Base

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Pointwise

variable {F : FTy → Type} [FloatOps F]

local notation "𝕄" => MT nD τ sig Unit (Elt F) ℕ (UR sig nD τ) ℕ

/-- One doubling step of the running sum down eight rows: each row takes the row `k` above it, where there is one. -/
noncomputable def step (k : BitVec 32) (x : FVec F S8x112 .f32) : FVec F S8x112 .f32 :=
  addf x (select (cmpi .sge (iota .tc S8x112 32 [0] iota_S8x112_d0_w32) (broadcast S8x112 k)) (dynamicRotate 0 k none x rotates_S8x112_d0)
    (broadcast S8x112 (Scalar.ofBits .f32 0x00000000#32 : F .f32)))

/-- The running sum down eight rows. -/
noncomputable def scan (x : FVec F S8x112 .f32) : FVec F S8x112 .f32 := step 4#32 (step 2#32 (step 1#32 x))

theorem rows_slices (k : Fin 16) : S128x112.Slices ![8 * k.val, 0] S8x112 := by revert k; decide

/-- Eight rows of a half of the tokens. -/
noncomputable def rows (v : FVec F S128x112 .f32) (k : Fin 16) : FVec F S8x112 .f32 :=
  extractStridedSlice S8x112 ![8 * k.val, 0] v (rows_slices k)

/-- The last row, under every row. -/
noncomputable def last (x : FVec F S8x112 .f32) : FVec F S8x112 .f32 :=
  broadcastTo S8x112 (shapeCast S1x112 (extractStridedSlice S1x112 ![7, 0] x slices_S8x112_o7_0_S1x112) shapeCasts_S1x112_S1x112) broadcasts_S1x112_S8x112

/-- The sums of the `k`-th eight tokens: `va` holds the first half's terms, `vb` the second half's. -/
noncomputable def cums (v9 : FVec F S8x112 .f32) (va vb : FVec F S128x112 .f32) : ℕ → FVec F S8x112 .f32
  | 0 => addf (scan (rows va 0)) v9
  | k + 1 => addf (scan (rows (if k + 1 < 16 then va else vb) ⟨(k + 1) % 16, Nat.mod_lt _ (by decide)⟩)) (last (cums v9 va vb k))

theorem dInb (k : Fin 32) (a : Fin S256x128.rank) : (![8 * k.val, 0] : Fin 2 → ℕ) a + S8x112.size a ≤ S256x128.size a := by
  fin_cases a <;> simp [Shape.size] <;> omega

/-- The `k`-th store into the decays. -/
noncomputable def dPiece (v9 : FVec F S8x112 .f32) (va vb : FVec F S128x112 .f32) (k : Fin 32) : View.Piece (Elt F) S256x128 .f32 :=
  ⟨Rect.unit (s := S256x128) ![8 * k.val, 0] S8x112.size (dInb k),
    shapeCast S8x112 (exp (cums v9 va vb k.val)) shapeCasts_S8x112_S8x112⟩

variable (c : Dev nD) (i : grid0.Coords) (arg2 : Memref sig .tc .vmem S1x112 .f32) (harg2 : arg2.IsWhole) (arg3 : Memref sig .tc .vmem S1x256x7168 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x112x4096 .f32) (harg6 : arg6.IsWhole) (arg7 : Memref sig .tc .vmem S1x7168x256 .fp8e4m3) (harg7 : arg7.IsWhole) (arg8 : Memref sig .tc .vmem S1x112x256 .f32) (harg8 : arg8.IsWhole) (arg9 : Memref sig .tc .vmem S1x8x64x256 .f32) (harg9 : arg9.IsWhole) (arg10 : Memref sig .tc .vmem S1x256x7168 .bf16) (harg10 : arg10.IsWhole) (arg11 : Memref sig .tc .vmem S1x512x256 .fp8e4m3) (harg11 : arg11.IsWhole) (arg12 : Memref sig .tc .vmem S1x8x256 .f32) (harg12 : arg12.IsWhole) (arg13 : Memref sig .tc .vmem S7168x256 .bf16) (harg13 : arg13.IsWhole) (arg14 : Memref sig .tc .vmem S112x128 .f32) (harg14 : arg14.IsWhole) (arg15 : Memref sig .tc .vmem S8x128 .f32) (harg15 : arg15.IsWhole) (arg16 : Memref sig .tc .vmem S256x128 .f32) (harg16 : arg16.IsWhole) (arg17 : Memref sig .tc .vmem S112x256 .f32) (harg17 : arg17.IsWhole)

/-- The terms of half `r` of a block's tokens. -/
noncomputable def half (x4 : Vec F S1x112x4096 .f32) (xa : Vec F S112x128 .f32) (r : Fin 2) : FVec F S128x112 .f32 :=
  k0_pay206 (View.readAt (Elt F) arg6.view (Rect.unit (s := S1x112x4096) (k0_off1 i (BitVec.ofNat 32 (128 * r.val))) S1x112x128.size (k0_off1_inb i r)).toLoadRect (harg6.unread x4))
    (View.readAt (Elt F) arg14.view (Rect.unit (s := S112x128) ![0, 0] S112x128.size inb_S112x128_S112x128_0_0).toLoadRect (harg14.unread xa))

/-- The stores of the running sums, from the carry `v9` loaded. -/
noncomputable abbrev sums (x4 : Vec F S1x112x4096 .f32) (xa : Vec F S112x128 .f32) (v9 : Vec F S8x112 .f32) :=
  sumsRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 xa (iota .tc S8x112 32 [0] iota_S8x112_d0_w32) v9
    (k0_pay206 (View.readAt (Elt F) arg6.view (Rect.unit (s := S1x112x4096) (k0_off1 i 0#32) S1x112x128.size (k0_off1_inb i 0)).toLoadRect (harg6.unread x4)) (View.readAt (Elt F) arg14.view (Rect.unit (s := S112x128) ![0, 0] S112x128.size inb_S112x128_S112x128_0_0).toLoadRect (harg14.unread xa)))
    (k0_pay207 (View.readAt (Elt F) arg6.view (Rect.unit (s := S1x112x4096) (k0_off1 i 0#32) S1x112x128.size (k0_off1_inb i 0)).toLoadRect (harg6.unread x4)) (View.readAt (Elt F) arg14.view (Rect.unit (s := S112x128) ![0, 0] S112x128.size inb_S112x128_S112x128_0_0).toLoadRect (harg14.unread xa)))
    k0_pay208
    (k0_pay209 (View.readAt (Elt F) arg6.view (Rect.unit (s := S1x112x4096) (k0_off1 i 0#32) S1x112x128.size (k0_off1_inb i 0)).toLoadRect (harg6.unread x4)) (View.readAt (Elt F) arg14.view (Rect.unit (s := S112x128) ![0, 0] S112x128.size inb_S112x128_S112x128_0_0).toLoadRect (harg14.unread xa)))

set_option maxHeartbeats 4000000 in
theorem sums_d_pieces (x4 : Vec F S1x112x4096 .f32) (xa : Vec F S112x128 .f32) (v9 : Vec F S8x112 .f32) :
    (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 xa v9).1 = (List.finRange 32).reverse.map (dPiece v9 (half i arg6 harg6 arg14 harg14 x4 xa 0) (half i arg6 harg6 arg14 harg14 x4 xa 1)) := rfl

set_option maxHeartbeats 4000000 in
theorem sums_c_pieces (x4 : Vec F S1x112x4096 .f32) (xa : Vec F S112x128 .f32) (v9 : Vec F S8x112 .f32) :
    (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 xa v9).2.1 = [⟨Rect.unit (s := S8x128) ![0, 0] S8x112.size inb_S8x128_S8x112_0_0, shapeCast S8x112 (last (cums v9 (half i arg6 harg6 arg14 harg14 x4 xa 0) (half i arg6 harg6 arg14 harg14 x4 xa 1) 31)) shapeCasts_S8x112_S8x112⟩] := rfl

/-! ### Element by element -/

theorem scan_apply (x : FVec Ideal S8x112 .f32) (h : Fin 112) (f : ℕ → EReal) (hf : ∀ s : Fin 8, x (ix2 s h) = f s.val) (r : Fin 8) :
    scan x (ix2 r h) = ∑ s ∈ Finset.range (r.val + 1), f s := by
  fin_cases r <;> pointwise [scan, step] <;> simp [Finset.sum_range_succ, hf, Scalar.select, IntOp.cmpi, BitVec.sle, BitVec.slt] <;> (try ac_rfl)

theorem rows_apply (v : FVec Ideal S128x112 .f32) (k : Fin 16) (r : Fin 8) (h : Fin 112) :
    rows v k (ix2 r h) = v (ix2 ⟨8 * k.val + r.val, by omega⟩ h) := by
  pointwise [rows]

theorem last_apply (x : FVec Ideal S8x112 .f32) (r : Fin 8) (h : Fin 112) : last x (ix2 r h) = x (ix2 7 h) := by
  pointwise [last]

theorem cums_apply (v9 : FVec Ideal S8x112 .f32) (va vb : FVec Ideal S128x112 .f32) (h : Fin 112) (f : ℕ → EReal) (C : EReal)
    (h9 : ∀ r, v9 (ix2 r h) = C) (ha : ∀ s : Fin 128, va (ix2 s h) = f s.val) (hb : ∀ s : Fin 128, vb (ix2 s h) = f (128 + s.val)) (k : ℕ) (hk : k < 32) :
    ∀ r : Fin 8, cums v9 va vb k (ix2 r h) = C + ∑ s ∈ Finset.range (8 * k + r.val + 1), f s := by
  induction k with
  | zero =>
    intro r
    show scan (rows va 0) (ix2 r h) + v9 (ix2 r h) = _
    rw [h9, scan_apply _ h f (fun s => by rw [rows_apply, ha]; simp), add_comm]
    simp
  | succ k ih =>
    intro r
    show scan (rows (if k + 1 < 16 then va else vb) ⟨(k + 1) % 16, _⟩) (ix2 r h) + last (cums v9 va vb k) (ix2 r h) = _
    rw [last_apply, ih (by omega), scan_apply _ h (fun s => f (8 * (k + 1) + s)), add_comm, add_assoc]
    · rw [show 8 * k + (7 : Fin 8).val + 1 = 8 * (k + 1) from by simp; omega, show 8 * (k + 1) + r.val + 1 = 8 * (k + 1) + (r.val + 1) from rfl,
        ← Finset.sum_range_add f (8 * (k + 1)) (r.val + 1)]
    · intro s
      rw [rows_apply]
      by_cases h16 : k + 1 < 16
      · rw [if_pos h16, ha]; exact congrArg f (by simp only []; omega)
      · rw [if_neg h16, hb]; exact congrArg f (by simp only []; omega)

theorem half_apply (x4 : Vec Ideal S1x112x4096 .f32) (A : Fin 112 → EReal) (r : Fin 2) (s : Fin 128) (h : Fin 112) :
    half i arg6 harg6 arg14 harg14 x4 (fun y => A (y 0)) r (ix2 s h) = dA x4 A h (256 * (i 1).val + 128 * r.val + s.val) := by
  have hi : (i 1).val < 16 := (i 1).isLt
  rw [← dA_of x4 A h _ (by omega)]
  simp only [half, View.readAt_eq_ld, Memref.IsWhole.read_unread]
  pointwise [k0_pay206]
  refine congrArg (· * A h) (congrArg x4 (funext fun a => Fin.ext ?_))
  fin_cases a <;> simp [ix3, k0_off1_eq i r]

/-- The carry holds the sum of the first `n` terms of every head, in each of its eight rows. -/
def CarryAt (x4 : Vec Ideal S1x112x4096 .f32) (A : Fin 112 → EReal) (n : ℕ) (cv : Vec Ideal S8x128 .f32) : Prop :=
  ∀ (r : Fin 8) (h : Fin 112), cv (ix2 r ⟨h.val, by omega⟩) = ∑ s ∈ Finset.range n, dA x4 A h s

/-- The decays of the 256 tokens from token `n` on. -/
def DecayAt (x4 : Vec Ideal S1x112x4096 .f32) (A : Fin 112 → EReal) (n : ℕ) (d : Vec Ideal S256x128 .f32) : Prop :=
  ∀ (p : Fin 256) (h : Fin 112), d (ix2 p ⟨h.val, by omega⟩) = Ideal.exp (∑ s ∈ Finset.range (n + p.val + 1), dA x4 A h s)

/-- The carry as the running sums load it. -/
noncomputable abbrev ldCarry (cv : Vec F S8x128 .f32) : Vec F S8x112 .f32 :=
  View.readAt (Elt F) arg15.view (Rect.unit (s := S8x128) ![0, 0] S8x112.size inb_S8x128_S8x112_0_0).toLoadRect (harg15.unread cv)

theorem cums_at (x4 : Vec Ideal S1x112x4096 .f32) (A : Fin 112 → EReal) (cv : Vec Ideal S8x128 .f32) (hcv : CarryAt x4 A (256 * (i 1).val) cv) (k : ℕ) (hk : k < 32) (r : Fin 8) (h : Fin 112) :
    cums (ldCarry arg15 harg15 cv) (half i arg6 harg6 arg14 harg14 x4 (fun y => A (y 0)) 0) (half i arg6 harg6 arg14 harg14 x4 (fun y => A (y 0)) 1) k (ix2 r h)
      = ∑ s ∈ Finset.range (256 * (i 1).val + (8 * k + r.val + 1)), dA x4 A h s := by
  rw [cums_apply _ _ _ h (fun s => dA x4 A h (256 * (i 1).val + s)) _ (fun r => (?_ : _ = ∑ s ∈ Finset.range (256 * (i 1).val), dA x4 A h s)) (fun s => ?_) (fun s => ?_) k hk, ← Finset.sum_range_add]
  · rw [ldCarry, View.readAt_eq_ld, Memref.IsWhole.read_unread, ← hcv r h]
    pointwise
  · rw [half_apply]; simp
  · rw [half_apply]; exact congrArg _ (by simp; omega)

set_option maxHeartbeats 1000000 in
theorem sums_d (x4 : Vec Ideal S1x112x4096 .f32) (A : Fin 112 → EReal) (cv : Vec Ideal S8x128 .f32) (hcv : CarryAt x4 A (256 * (i 1).val) cv) (f : arg16.view.ty.Contents (Elt Ideal)) :
    ∃ d, arg16.view.writes (Elt Ideal) f (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 (fun y => A (y 0)) (ldCarry arg15 harg15 cv)).1 = harg16.unread d ∧ DecayAt x4 A (256 * (i 1).val) d := by
  refine ⟨_, harg16.eq_unread rfl, fun p h => ?_⟩
  have hp := p.isLt
  have hh := h.isLt
  let k : Fin 32 := ⟨p.val / 8, by omega⟩
  have hm : (ix2 p ⟨h.val, by omega⟩ : S256x128.Idx) ∈ (Rect.unit (s := S256x128) ![8 * k.val, 0] S8x112.size (dInb k)).set := by
    refine Rect.mem_set_unit.2 fun a => ?_
    fin_cases a <;> simp [Shape.size, ix2, k] <;> omega
  rw [View.read_writes_apply_eq_canon _ _ _ _ ⟨dPiece _ _ _ k, by rw [sums_d_pieces]; exact List.mem_map_of_mem (by simp), hm⟩, sums_d_pieces]
  refine (View.canon_apply_of_pieces (fun y => Ideal.exp (∑ s ∈ Finset.range (256 * (i 1).val + (y 0).val + 1), if hy : (y 1).val < 112 then dA x4 A ⟨(y 1).val, hy⟩ s else 0)) _ ?_ _ ⟨dPiece _ _ _ k, List.mem_map_of_mem (by simp), hm⟩).trans ?_
  · intro q hq
    obtain ⟨k, -, rfl⟩ := List.mem_map.1 hq
    intro x
    have e0 : ((Rect.unit (s := S256x128) ![8 * k.val, 0] S8x112.size (dInb k)).emb x 0).val = 8 * k.val + (x 0).val := emb_unit_val _ _ (dInb k) x 0
    have e1 : ((Rect.unit (s := S256x128) ![8 * k.val, 0] S8x112.size (dInb k)).emb x 1).val = (x 1).val := (emb_unit_val _ _ (dInb k) x 1).trans (Nat.zero_add _)
    have h1 : (x 1).val < 112 := (x 1).isLt
    show (shapeCast S8x112 (exp (cums (ldCarry arg15 harg15 cv) (half i arg6 harg6 arg14 harg14 x4 (fun y => A (y 0)) 0) (half i arg6 harg6 arg14 harg14 x4 (fun y => A (y 0)) 1) k.val)) shapeCasts_S8x112_S8x112 : FVec Ideal S8x112 .f32) x = Ideal.exp (∑ s ∈ Finset.range (256 * (i 1).val + ((Rect.unit (s := S256x128) ![8 * k.val, 0] S8x112.size (dInb k)).emb x 0).val + 1), if hy : ((Rect.unit (s := S256x128) ![8 * k.val, 0] S8x112.size (dInb k)).emb x 1).val < 112 then dA x4 A ⟨_, hy⟩ s else 0)
    simp only [e0, e1, h1, dif_pos]
    pointwise
    refine (congrArg Ideal.exp ((congrArg _ (eq_ix2 x)).trans (cums_at i arg6 harg6 arg14 harg14 arg15 harg15 x4 A cv hcv k.val k.isLt (x 0) (x 1)))).trans ?_
    exact congrArg _ (Finset.sum_congr (congrArg Finset.range (by omega)) fun _ _ => rfl)
  · refine congrArg _ (Finset.sum_congr rfl fun s _ => ?_)
    exact dif_pos hh

set_option maxHeartbeats 1000000 in
theorem sums_c (x4 : Vec Ideal S1x112x4096 .f32) (A : Fin 112 → EReal) (cv : Vec Ideal S8x128 .f32) (hcv : CarryAt x4 A (256 * (i 1).val) cv) (f : arg15.view.ty.Contents (Elt Ideal)) :
    ∃ d, arg15.view.writes (Elt Ideal) f (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 (fun y => A (y 0)) (ldCarry arg15 harg15 cv)).2.1 = harg15.unread d ∧ CarryAt x4 A (256 * ((i 1).val + 1)) d := by
  refine ⟨_, harg15.eq_unread rfl, fun r h => ?_⟩
  have hr := r.isLt
  have hh := h.isLt
  have hm : (ix2 r ⟨h.val, by omega⟩ : S8x128.Idx) ∈ (Rect.unit (s := S8x128) ![0, 0] S8x112.size inb_S8x128_S8x112_0_0).set := by
    refine Rect.mem_set_unit.2 fun a => ?_
    fin_cases a <;> simp [Shape.size, ix2]
  rw [sums_c_pieces, View.read_writes_apply_eq_canon _ _ _ _ ⟨_, List.mem_singleton_self _, hm⟩]
  have he : (ix2 r ⟨h.val, by omega⟩ : S8x128.Idx) = (Rect.unit (s := S8x128) ![0, 0] S8x112.size inb_S8x128_S8x112_0_0).emb (ix2 r h) := by
    funext a
    refine Fin.ext ?_
    rw [emb_unit_val]
    fin_cases a <;> simp [ix2]
  rw [he, View.canon_cons_emb]
  pointwise
  rw [last_apply, cums_at i arg6 harg6 arg14 harg14 arg15 harg15 x4 A cv hcv 31 (by decide)]
  exact (Finset.sum_congr (congrArg Finset.range (by simp; omega)) fun _ _ => rfl)

end Cert.KernelIdeal.Hand

end
-- ==== Proof.TilesRun.lean ====
/- The tiles of `y`, run: what one block of tokens stores. -/
module

public import proofs.«01_k».proof.Proof.Cuts

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x112 .f32) (harg2 : arg2.IsWhole) (arg3 : Memref sig .tc .vmem S1x256x7168 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x112x4096 .f32) (harg6 : arg6.IsWhole) (arg7 : Memref sig .tc .vmem S1x7168x256 .fp8e4m3) (harg7 : arg7.IsWhole) (arg8 : Memref sig .tc .vmem S1x112x256 .f32) (harg8 : arg8.IsWhole) (arg9 : Memref sig .tc .vmem S1x8x64x256 .f32) (harg9 : arg9.IsWhole) (arg10 : Memref sig .tc .vmem S1x256x7168 .bf16) (harg10 : arg10.IsWhole) (arg11 : Memref sig .tc .vmem S1x512x256 .fp8e4m3) (harg11 : arg11.IsWhole) (arg12 : Memref sig .tc .vmem S1x8x256 .f32) (harg12 : arg12.IsWhole) (arg13 : Memref sig .tc .vmem S7168x256 .bf16) (harg13 : arg13.IsWhole) (arg14 : Memref sig .tc .vmem S112x128 .f32) (harg14 : arg14.IsWhole) (arg15 : Memref sig .tc .vmem S8x128 .f32) (harg15 : arg15.IsWhole) (arg16 : Memref sig .tc .vmem S256x128 .f32) (harg16 : arg16.IsWhole) (arg17 : Memref sig .tc .vmem S112x256 .f32) (harg17 : arg17.IsWhole)

set_option maxHeartbeats 4000000 in
/-- What the products of one block of tokens store into its block of `y`. -/
noncomputable def tilesRun (x1 : Vec F S1x256x7168 .bf16) (x2 : Vec F S1x2048x128 .bf16) (x3 : Vec F S1x2048x128 .bf16) (w : Vec F S7168x256 .bf16) (d : Vec F S256x128 .f32) :
    { LY : List (View.Piece (Elt F) S1x256x7168 .bf16) //
      ∀ (y : Vec F S1x256x7168 .bf16) (E : Set ℕ) (κ : BitVec 32 → Prog (TpuEff nD τ sig (Elt F) Λ₀ .tc) PUnit) (K : PUnit → sProp 𝕄),
        iprop(held c arg3 harg3 x1 ∗ held c arg4 harg4 x2 ∗ held c arg5 harg5 x3 ∗ held c arg10 harg10 y ∗ held c arg13 harg13 w ∗ held c arg16 harg16 d
            ∗ (iprop(held c arg3 harg3 x1 ∗ held c arg4 harg4 x2 ∗ held c arg5 harg5 x3
                ∗ (arg10.view.loc (c : Thread nD τ) ↦[arg10.view.set]{fullShare} arg10.view.writes (Elt F) (harg10.unread y) LY)
                ∗ held c arg13 harg13 w ∗ held c arg16 harg16 d)
              -∗ wp frame (wpE (defs₀ (F := F)) Variants.none c none) E (κ (BitVec.ofNat 32 (i 1).val)) K))
          ⊢ wp frame (wpE (defs₀ (F := F)) Variants.none c none) E (q2.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (iota .tc S256x128 32 [1] iota_S256x128_d1_w32) 64#32 k0_pay328 k0_pay329 (Scalar.cmpi .sgt 64#32 0#32))
              (fun x => wp frame (wpE (defs₀ (F := F)) Variants.none c none) E (r2 arg10 harg10 x.2.1 x.2.2.1 x.2.2.2.1 x.2.2.2.2 (κ x.1)) K) } := by
  refine ⟨?_, fun y E κ K => ?run⟩
  case run =>
    rw [q3.eq]
    unfold r2
    unfold q3
    simp only [k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton]
    iintro ⟨H1, H2, H3, HY, HW, HD, Hk⟩
    sl_exec
    iapply Hk
    isplitl [H1]; · iexact H1
    isplitl [H2]; · iexact H2
    isplitl [H3]; · iexact H3
    isplitl [HY]; · iexact HY
    isplitl [HW]; · iexact HW
    iexact HD

end Cert.KernelIdeal.Hand

end
-- ==== Proof.TilesVal.lean ====
/- What the products of one block of tokens store, element by element. -/
module

public import proofs.«01_k».proof.Proof.TilesRun
public import proofs.«01_k».proof.Proof.Base

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x112 .f32) (harg2 : arg2.IsWhole) (arg3 : Memref sig .tc .vmem S1x256x7168 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x112x4096 .f32) (harg6 : arg6.IsWhole) (arg7 : Memref sig .tc .vmem S1x7168x256 .fp8e4m3) (harg7 : arg7.IsWhole) (arg8 : Memref sig .tc .vmem S1x112x256 .f32) (harg8 : arg8.IsWhole) (arg9 : Memref sig .tc .vmem S1x8x64x256 .f32) (harg9 : arg9.IsWhole) (arg10 : Memref sig .tc .vmem S1x256x7168 .bf16) (harg10 : arg10.IsWhole) (arg11 : Memref sig .tc .vmem S1x512x256 .fp8e4m3) (harg11 : arg11.IsWhole) (arg12 : Memref sig .tc .vmem S1x8x256 .f32) (harg12 : arg12.IsWhole) (arg13 : Memref sig .tc .vmem S7168x256 .bf16) (harg13 : arg13.IsWhole) (arg14 : Memref sig .tc .vmem S112x128 .f32) (harg14 : arg14.IsWhole) (arg15 : Memref sig .tc .vmem S8x128 .f32) (harg15 : arg15.IsWhole) (arg16 : Memref sig .tc .vmem S256x128 .f32) (harg16 : arg16.IsWhole) (arg17 : Memref sig .tc .vmem S112x256 .f32) (harg17 : arg17.IsWhole)

open Pointwise

/-- Lane `l` of the head counter holds `l / 64`. -/
noncomputable abbrev lane64 : IVec S256x128 32 := k0_pay330 (iota .tc S256x128 32 [1] iota_S256x128_d1_w32) 64#32 k0_pay328 k0_pay329 (Scalar.cmpi .sgt 64#32 0#32)

/-- The heads the lanes gather from, counting from head `o`, with the wrap of negative indices. -/
noncomputable def heads (o : BitVec 32) : IVec S256x128 32 :=
  shapeCast S256x128 (shapeCast S256x128x1 (select (cmpi .slt (addi lane64 (broadcast S256x128 o)) (broadcast S256x128 0#32))
    (addi (addi lane64 (broadcast S256x128 o)) (broadcast S256x128 128#32)) (addi lane64 (broadcast S256x128 o)))
    shapeCasts_S256x128_S256x128x1) shapeCasts_S256x128x1_S256x128

/-- The decays of the four heads of one block of 256 columns. -/
noncomputable def scales4 (d : Vec F S256x128 .f32) (o o' : BitVec 32) : FVec F S256x256 .f32 :=
  concatenate S256x256 1 [⟨S256x128, dynamicGather 1 d (heads o)⟩, ⟨S256x128, dynamicGather 1 d (heads o')⟩] concatenates_S256x128_S256x128_S256x256_d1

theorem cInb (g : Fin 4) (a : Fin S1x1024x2x128.rank) : S1x256x2x128.size a = 0 ∨ (![0, g.val, 0, 0] : Fin 4 → Nat) a + (![1, 4, 1, 1] : Fin 4 → Nat) a * (S1x256x2x128.size a - 1) < S1x1024x2x128.size a := by
  right; fin_cases a <;> simp [Shape.size] <;> omega

/-- Rows of `C` of two neighbouring groups, one half of their columns. -/
noncomputable def cLoad (arg : Memref sig .tc .vmem S1x2048x128 .bf16) (harg : arg.IsWhole) (x : Vec F S1x2048x128 .bf16) (g : Fin 4) : Vec F S1x256x2x128 .bf16 :=
  View.readAt (Elt F) (arg.reshape S1x1024x2x128 reshapes_S1x2048x128_S1x1024x2x128.1 reshapes_S1x2048x128_S1x1024x2x128.2 harg.contiguous).view
    (⟨![0, g.val, 0, 0], S1x256x2x128.size, ![1, 4, 1, 1], cInb g⟩ : LoadRect S1x1024x2x128) (harg.unread x)

/-- The products of a block of 256 columns that lies in one group. -/
noncomputable def sOne (C : FVec F S256x256 .bf16) (w : Vec F S256x256 .bf16) : FVec F S256x256 .f32 :=
  matmul dot_S256x256_S256x256_S256x256_1_1_0_0_n_n none C w (constant S256x256 .f32 0x00000000#32)

/-- The products of a block of 256 columns that straddles two groups. -/
noncomputable def sTwo (C C' : FVec F S256x256 .bf16) (w w' : Vec F S128x256 .bf16) : FVec F S256x256 .f32 :=
  concatenate S256x256 1 [⟨S256x128, matmul dot_S256x256_S128x256_S256x128_1_1_0_0_n_n none C w (constant S256x128 .f32 0x00000000#32)⟩,
    ⟨S256x128, matmul dot_S256x256_S128x256_S256x128_1_1_0_0_n_n none C' w' (constant S256x128 .f32 0x00000000#32)⟩] concatenates_S256x128_S256x128_S256x256_d1

/-- The stored block: the local part plus the products times the decays. -/
noncomputable def tileOut (x : Vec F S1x256x256 .bf16) (s sc : FVec F S256x256 .f32) : FVec F S1x256x256 .bf16 :=
  shapeCast S1x256x256 (truncf .bf16 (addf (extf .f32 (shapeCast S256x256 x shapeCasts_S1x256x256_S256x256) bitsLt_bf16_f32) (mulf s sc)) bitsLt_bf16_f32) shapeCasts_S256x256_S1x256x256

theorem yInb (n : Fin 28) (a : Fin S1x256x7168.rank) : (![0, 0, 256 * n.val] : Fin 3 → ℕ) a + S1x256x256.size a ≤ S1x256x7168.size a := by
  fin_cases a <;> simp [Shape.size] <;> omega
theorem vInb (n : Fin 28) (a : Fin S7168x256.rank) : (![256 * n.val, 0] : Fin 2 → ℕ) a + S256x256.size a ≤ S7168x256.size a := by
  fin_cases a <;> simp [Shape.size] <;> omega
theorem vInb' (n : Fin 28) (r : Fin 2) (a : Fin S7168x256.rank) : (![256 * n.val + 128 * r.val, 0] : Fin 2 → ℕ) a + S128x256.size a ≤ S7168x256.size a := by
  fin_cases a <;> simp [Shape.size] <;> omega

/-- The products of the `n`-th block of 256 columns: one group, or the last columns of one and the first of the next. -/
noncomputable def sPart (x2 : Vec F S1x2048x128 .bf16) (x3 : Vec F S1x2048x128 .bf16) (w : Vec F S7168x256 .bf16) (n : Fin 28) : FVec F S256x256 .f32 :=
  if n.val % 7 < 3 then
    sOne (k0_pay331 (cLoad arg4 harg4 x2 ⟨n.val / 7, by omega⟩) (cLoad arg5 harg5 x3 ⟨n.val / 7, by omega⟩))
      (View.readAt (Elt F) arg13.view (Rect.unit (s := S7168x256) ![256 * n.val, 0] S256x256.size (vInb n)).toLoadRect (harg13.unread w))
  else if n.val % 7 = 3 then
    sTwo (k0_pay331 (cLoad arg4 harg4 x2 ⟨n.val / 7, by omega⟩) (cLoad arg5 harg5 x3 ⟨n.val / 7, by omega⟩))
      (k0_pay332 (cLoad arg4 harg4 x2 ⟨n.val / 7, by omega⟩) (cLoad arg5 harg5 x3 ⟨n.val / 7, by omega⟩))
      (View.readAt (Elt F) arg13.view (Rect.unit (s := S7168x256) ![256 * n.val + 128 * (0 : Fin 2).val, 0] S128x256.size (vInb' n 0)).toLoadRect (harg13.unread w))
      (View.readAt (Elt F) arg13.view (Rect.unit (s := S7168x256) ![256 * n.val + 128 * (1 : Fin 2).val, 0] S128x256.size (vInb' n 1)).toLoadRect (harg13.unread w))
  else
    sOne (k0_pay332 (cLoad arg4 harg4 x2 ⟨n.val / 7, by omega⟩) (cLoad arg5 harg5 x3 ⟨n.val / 7, by omega⟩))
      (View.readAt (Elt F) arg13.view (Rect.unit (s := S7168x256) ![256 * n.val, 0] S256x256.size (vInb n)).toLoadRect (harg13.unread w))

/-- The `n`-th store into the block of `y`. -/
noncomputable def yPiece (x1 : Vec F S1x256x7168 .bf16) (x2 : Vec F S1x2048x128 .bf16) (x3 : Vec F S1x2048x128 .bf16) (w : Vec F S7168x256 .bf16) (d : Vec F S256x128 .f32) (n : Fin 28) : View.Piece (Elt F) S1x256x7168 .bf16 :=
  ⟨Rect.unit (s := S1x256x7168) ![0, 0, 256 * n.val] S1x256x256.size (yInb n),
    tileOut (View.readAt (Elt F) arg3.view (Rect.unit (s := S1x256x7168) ![0, 0, 256 * n.val] S1x256x256.size (yInb n)).toLoadRect (harg3.unread x1))
      (sPart arg4 harg4 arg5 harg5 arg13 harg13 x2 x3 w n)
      (scales4 (View.readAt (Elt F) arg16.view (Rect.unit (s := S256x128) ![0, 0] S256x128.size inb_S256x128_S256x128_0_0).toLoadRect (harg16.unread d)) (BitVec.ofNat 32 (4 * n.val)) (BitVec.ofNat 32 (4 * n.val + 2)))⟩

set_option maxHeartbeats 2000000 in
theorem tiles_pieces (x1 : Vec F S1x256x7168 .bf16) (x2 : Vec F S1x2048x128 .bf16) (x3 : Vec F S1x2048x128 .bf16) (w : Vec F S7168x256 .bf16) (d : Vec F S256x128 .f32) :
    (tilesRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 w d).1 = (List.finRange 28).reverse.map (yPiece arg3 harg3 arg4 harg4 arg5 harg5 arg13 harg13 arg16 harg16 x1 x2 x3 w d) := rfl

theorem lane64_eq (t : Fin 256) (l : Fin 128) : lane64 (ix2 t l) = BitVec.ofNat 32 (l.val / 64) := by
  unfold lane64
  pointwise [k0_pay330, k0_pay328, k0_pay329]
  revert l
  decide

theorem heads_eq (n : ℕ) (hn : n < 126) (t : Fin 256) (l : Fin 128) : (heads (BitVec.ofNat 32 n) (ix2 t l)).toNat = n + l.val / 64 := by
  unfold heads
  pointwise
  rw [lane64_eq]
  have key : ∀ (n : Fin 126) (m : Fin 2), (Scalar.select (IntOp.cmpi CmpIPredicate.slt (IntOp.addi (BitVec.ofNat 32 m.val) (BitVec.ofNat 32 n.val)) 0#32)
        (IntOp.addi (IntOp.addi (BitVec.ofNat 32 m.val) (BitVec.ofNat 32 n.val)) 128#32)
        (IntOp.addi (BitVec.ofNat 32 m.val) (BitVec.ofNat 32 n.val))).toNat = n.val + m.val := by decide
  exact key ⟨n, hn⟩ ⟨l.val / 64, by omega⟩

theorem scales4_eq (d : Vec Ideal S256x128 .f32) (n : Fin 28) (t : Fin 256) (l : Fin 256) :
    scales4 d (BitVec.ofNat 32 (4 * n.val)) (BitVec.ofNat 32 (4 * n.val + 2)) (ix2 t l) = d (ix2 t ⟨4 * n.val + l.val / 64, by omega⟩) := by
  unfold scales4
  pointwise
  split
  · refine congrArg d (congrArg (ix2 t) (Fin.ext ((congrArg (· % 128) (heads_eq _ (by omega) _ _)).trans ?_)))
    show (4 * n.val + l.val / 64) % 128 = 4 * n.val + l.val / 64
    omega
  · refine congrArg d (congrArg (ix2 t) (Fin.ext ((congrArg (· % 128) (heads_eq _ (by omega) _ _)).trans ?_)))
    show (4 * n.val + 2 + (l.val - 128) / 64) % 128 = 4 * n.val + l.val / 64
    omega

/-- `C` at token `t` of the block, group `q`. -/
noncomputable def cAt (x2 x3 : Vec Ideal S1x2048x128 .bf16) (t : Fin 256) (q : Fin 8) (k : Fin 256) : EReal :=
  if hk : k.val < 128 then x2 (ix3 0 ⟨8 * t.val + q.val, by omega⟩ ⟨k.val, hk⟩)
  else x3 (ix3 0 ⟨8 * t.val + q.val, by omega⟩ ⟨k.val - 128, by omega⟩)

theorem cLoad_eq (arg : Memref sig .tc .vmem S1x2048x128 .bf16) (harg : arg.IsWhole) (x : Vec F S1x2048x128 .bf16) (g : Fin 4) :
    cLoad arg harg x g = fun y => shapeCast S1x1024x2x128 x reshapes_S1x2048x128_S1x1024x2x128.1.symm (ix4 0 ⟨g.val + 4 * (y 1).val, by have : (y 1).val < 256 := (y 1).isLt; omega⟩ (y 2) (y 3)) := by
  funext y
  refine (congrFun (harg.read_unread x) _).trans ?_
  show x (Shape.reshapeEquiv _ _) = x (Shape.reshapeEquiv _ _)
  refine congrArg (fun z => x (Shape.reshapeEquiv _ z)) (funext fun a => Fin.ext ?_)
  have h0 : (y 0).val < 1 := (y 0).isLt
  fin_cases a <;> simp [LoadRect.idx, ix4] <;> omega

theorem even_eq (x2 x3 : Vec Ideal S1x2048x128 .bf16) (g : Fin 4) (t k : Fin 256) :
    k0_pay331 (cLoad arg4 harg4 x2 g) (cLoad arg5 harg5 x3 g) (ix2 t k) = cAt x2 x3 t ⟨2 * g.val, by omega⟩ k := by
  have e : (g.val + 4 * t.val) * 2 = 8 * t.val + 2 * g.val := by omega
  rw [cLoad_eq, cLoad_eq]
  pointwise [k0_pay331]
  simp only [e, cAt]

theorem odd_eq (x2 x3 : Vec Ideal S1x2048x128 .bf16) (g : Fin 4) (t k : Fin 256) :
    k0_pay332 (cLoad arg4 harg4 x2 g) (cLoad arg5 harg5 x3 g) (ix2 t k) = cAt x2 x3 t ⟨2 * g.val + 1, by omega⟩ k := by
  have e : (g.val + 4 * t.val) * 2 + 1 = 8 * t.val + (2 * g.val + 1) := by omega
  rw [cLoad_eq, cLoad_eq]
  pointwise [k0_pay332]
  simp only [e, cAt]

/-- The block of `y`: the local part plus the products with the scaled codes, times the decay of the head. -/
noncomputable def yTile (x1 : Vec Ideal S1x256x7168 .bf16) (x2 x3 : Vec Ideal S1x2048x128 .bf16) (w : Vec Ideal S7168x256 .bf16) (d : Vec Ideal S256x128 .f32) : Vec Ideal S1x256x7168 .bf16 := fun y =>
  x1 (ix3 0 (y 1) (y 2)) + (∑ k : Fin 256, cAt x2 x3 (y 1) ⟨(y 2).val / 896, by have : (y 2).val < 7168 := (y 2).isLt; omega⟩ k * w (ix2 (y 2) k))
    * d (ix2 (y 1) ⟨(y 2).val / 64, by have : (y 2).val < 7168 := (y 2).isLt; omega⟩)

theorem sOne_eq (C : FVec Ideal S256x256 .bf16) (w : Vec Ideal S256x256 .bf16) (t l : Fin 256) : sOne C w (ix2 t l) = ∑ k : Fin 256, C (ix2 t k) * w (ix2 l k) := by
  unfold sOne
  pointwise

theorem sTwo_eq (C C' : FVec Ideal S256x256 .bf16) (w w' : Vec Ideal S128x256 .bf16) (t l : Fin 256) :
    sTwo C C' w w' (ix2 t l) = if hl : l.val < 128 then ∑ k : Fin 256, C (ix2 t k) * w (ix2 ⟨l.val, hl⟩ k) else ∑ k : Fin 256, C' (ix2 t k) * w' (ix2 ⟨l.val - 128, by omega⟩ k) := by
  unfold sTwo
  pointwise

theorem tileOut_eq (x : Vec Ideal S1x256x256 .bf16) (s sc : FVec Ideal S256x256 .f32) (y : S1x256x256.Idx) : tileOut x s sc y = x (ix3 0 (y 1) (y 2)) + s (ix2 (y 1) (y 2)) * sc (ix2 (y 1) (y 2)) := by
  unfold tileOut
  pointwise
  refine congrArg (fun z => x z + _) ((eq_ix3 y).trans ?_)
  exact congrArg (fun z => ix3 z (y 1) (y 2)) (Subsingleton.elim (α := Fin 1) (y 0) 0)

theorem vRow (w : Vec Ideal S7168x256 .bf16) (n : Fin 28) (l k : Fin 256) :
    View.readAt (Elt Ideal) arg13.view (Rect.unit (s := S7168x256) ![256 * n.val, 0] S256x256.size (vInb n)).toLoadRect (harg13.unread w) (ix2 l k) = w (ix2 ⟨256 * n.val + l.val, by omega⟩ k) := by
  simp only [View.readAt_eq_ld, Memref.IsWhole.read_unread]
  pointwise

theorem vRow' (w : Vec Ideal S7168x256 .bf16) (n : Fin 28) (r : Fin 2) (l : Fin 128) (k : Fin 256) :
    View.readAt (Elt Ideal) arg13.view (Rect.unit (s := S7168x256) ![256 * n.val + 128 * r.val, 0] S128x256.size (vInb' n r)).toLoadRect (harg13.unread w) (ix2 l k) = w (ix2 ⟨256 * n.val + 128 * r.val + l.val, by omega⟩ k) := by
  simp only [View.readAt_eq_ld, Memref.IsWhole.read_unread]
  pointwise

set_option maxHeartbeats 1000000 in
theorem sPart_eq (x2 x3 : Vec Ideal S1x2048x128 .bf16) (w : Vec Ideal S7168x256 .bf16) (n : Fin 28) (t l : Fin 256) :
    sPart arg4 harg4 arg5 harg5 arg13 harg13 x2 x3 w n (ix2 t l)
      = ∑ k : Fin 256, cAt x2 x3 t ⟨(256 * n.val + l.val) / 896, by omega⟩ k * w (ix2 ⟨256 * n.val + l.val, by omega⟩ k) := by
  have cg : ∀ (q q' : Fin 8) (r r' : Fin 7168), q.val = q'.val → r.val = r'.val →
      (∑ k : Fin 256, cAt x2 x3 t q k * w (ix2 r k)) = ∑ k : Fin 256, cAt x2 x3 t q' k * w (ix2 r' k) := by
    intro q q' r r' e e'
    rw [Fin.ext e, Fin.ext e']
  unfold sPart
  split
  · refine (sOne_eq _ _ t l).trans ((Finset.sum_congr rfl fun k _ => congrArg₂ (· * ·) (even_eq arg4 harg4 arg5 harg5 x2 x3 _ t k) (vRow arg13 harg13 w n l k)).trans (cg _ _ _ _ ?_ rfl))
    show 2 * (n.val / 7) = (256 * n.val + l.val) / 896
    omega
  · split
    · refine (sTwo_eq _ _ _ _ t l).trans ?_
      split
      · refine (Finset.sum_congr rfl fun k _ => congrArg₂ (· * ·) (even_eq arg4 harg4 arg5 harg5 x2 x3 _ t k) (vRow' arg13 harg13 w n 0 _ k)).trans (cg _ _ _ _ ?_ ?_)
        · show 2 * (n.val / 7) = (256 * n.val + l.val) / 896
          omega
        · show 256 * n.val + 128 * 0 + l.val = 256 * n.val + l.val
          omega
      · refine (Finset.sum_congr rfl fun k _ => congrArg₂ (· * ·) (odd_eq arg4 harg4 arg5 harg5 x2 x3 _ t k) (vRow' arg13 harg13 w n 1 _ k)).trans (cg _ _ _ _ ?_ ?_)
        · show 2 * (n.val / 7) + 1 = (256 * n.val + l.val) / 896
          omega
        · show 256 * n.val + 128 * 1 + (l.val - 128) = 256 * n.val + l.val
          omega
    · refine (sOne_eq _ _ t l).trans ((Finset.sum_congr rfl fun k _ => congrArg₂ (· * ·) (odd_eq arg4 harg4 arg5 harg5 x2 x3 _ t k) (vRow arg13 harg13 w n l k)).trans (cg _ _ _ _ ?_ rfl))
      show 2 * (n.val / 7) + 1 = (256 * n.val + l.val) / 896
      omega

set_option maxHeartbeats 1000000 in
/-- One store, element by element. -/
theorem yPiece_eq (x1 : Vec Ideal S1x256x7168 .bf16) (x2 x3 : Vec Ideal S1x2048x128 .bf16) (w : Vec Ideal S7168x256 .bf16) (d : Vec Ideal S256x128 .f32) (n : Fin 28) (x : S1x256x256.Idx) :
    (yPiece arg3 harg3 arg4 harg4 arg5 harg5 arg13 harg13 arg16 harg16 x1 x2 x3 w d n).2 x
      = yTile x1 x2 x3 w d (ix3 0 (x 1) ⟨256 * n.val + (x 2).val, by have : (x 2).val < 256 := (x 2).isLt; omega⟩) := by
  have h2 : (x 2).val < 256 := (x 2).isLt
  have hd : View.readAt (Elt Ideal) arg16.view (Rect.unit (s := S256x128) ![0, 0] S256x128.size inb_S256x128_S256x128_0_0).toLoadRect (harg16.unread d) = d := by
    funext z
    simp only [View.readAt_eq_ld, Memref.IsWhole.read_unread]
    pointwise
  refine (tileOut_eq _ _ _ x).trans ?_
  rw [hd]
  refine congrArg₂ (· + ·) ?_ (congrArg₂ (· * ·) ?_ ?_)
  · simp only [View.readAt_eq_ld, Memref.IsWhole.read_unread]
    pointwise
  · exact sPart_eq arg4 harg4 arg5 harg5 arg13 harg13 x2 x3 w n (x 1) (x 2)
  · refine (scales4_eq d n (x 1) (x 2)).trans (congrArg d (congrArg (ix2 (x 1)) (Fin.ext ?_)))
    show 4 * n.val + (x 2).val / 64 = (256 * n.val + (x 2).val) / 64
    omega

theorem tiles_y (x1 : Vec Ideal S1x256x7168 .bf16) (x2 x3 : Vec Ideal S1x2048x128 .bf16) (w : Vec Ideal S7168x256 .bf16) (d : Vec Ideal S256x128 .f32) (f : arg10.view.ty.Contents (Elt Ideal)) :
    arg10.view.writes (Elt Ideal) f (tilesRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 w d).1 = harg10.unread (yTile x1 x2 x3 w d) := by
  refine harg10.eq_unread (funext fun y => ?_)
  have hy : (y 2).val < 7168 := (y 2).isLt
  have hcov : ∃ p ∈ (tilesRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 w d).1, y ∈ p.1.set := by
    rw [tiles_pieces]
    have hm : y ∈ (Rect.unit (s := S1x256x7168) ![0, 0, 256 * (⟨(y 2).val / 256, by omega⟩ : Fin 28).val] S1x256x256.size (yInb _)).set := by
      refine Rect.mem_set_unit.2 fun a => ?_
      have h0 : (y 0).val < 1 := (y 0).isLt
      have h1 : (y 1).val < 256 := (y 1).isLt
      fin_cases a <;> simp [Shape.size] <;> omega
    exact ⟨_, List.mem_map.2 ⟨⟨(y 2).val / 256, by omega⟩, by simp, rfl⟩, hm⟩
  rw [View.read_writes_apply_eq_canon _ _ _ _ hcov]
  refine View.canon_apply_of_pieces (yTile x1 x2 x3 w d) _ ?_ y hcov
  rw [tiles_pieces]
  intro p hp
  obtain ⟨n, -, rfl⟩ := List.mem_map.1 hp
  intro x
  have e1 : ((yPiece arg3 harg3 arg4 harg4 arg5 harg5 arg13 harg13 arg16 harg16 x1 x2 x3 w d n).1.emb x 1).val = (x 1).val := (emb_unit_val _ _ (yInb n) x 1).trans (Nat.zero_add _)
  have e2 : ((yPiece arg3 harg3 arg4 harg4 arg5 harg5 arg13 harg13 arg16 harg16 x1 x2 x3 w d n).1.emb x 2).val = 256 * n.val + (x 2).val := emb_unit_val _ _ (yInb n) x 2
  refine (yPiece_eq arg3 harg3 arg4 harg4 arg5 harg5 arg13 harg13 arg16 harg16 x1 x2 x3 w d n x).trans (congrArg (yTile x1 x2 x3 w d) ?_)
  refine Eq.trans ?_ (eq_ix3 _).symm
  exact congr (congrArg₂ ix3 (Subsingleton.elim _ _) (Fin.ext e1.symm)) (Fin.ext e2.symm)

end Cert.KernelIdeal.Hand

end
-- ==== Proof.QuantRun.lean ====
/- The quantisation of eight heads' states, run; and its being left out. -/
module

public import proofs.«01_k».proof.Proof.Cuts

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x112 .f32) (harg2 : arg2.IsWhole) (arg3 : Memref sig .tc .vmem S1x256x7168 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x112x4096 .f32) (harg6 : arg6.IsWhole) (arg7 : Memref sig .tc .vmem S1x7168x256 .fp8e4m3) (harg7 : arg7.IsWhole) (arg8 : Memref sig .tc .vmem S1x112x256 .f32) (harg8 : arg8.IsWhole) (arg9 : Memref sig .tc .vmem S1x8x64x256 .f32) (harg9 : arg9.IsWhole) (arg10 : Memref sig .tc .vmem S1x256x7168 .bf16) (harg10 : arg10.IsWhole) (arg11 : Memref sig .tc .vmem S1x512x256 .fp8e4m3) (harg11 : arg11.IsWhole) (arg12 : Memref sig .tc .vmem S1x8x256 .f32) (harg12 : arg12.IsWhole) (arg13 : Memref sig .tc .vmem S7168x256 .bf16) (harg13 : arg13.IsWhole) (arg14 : Memref sig .tc .vmem S112x128 .f32) (harg14 : arg14.IsWhole) (arg15 : Memref sig .tc .vmem S8x128 .f32) (harg15 : arg15.IsWhole) (arg16 : Memref sig .tc .vmem S256x128 .f32) (harg16 : arg16.IsWhole) (arg17 : Memref sig .tc .vmem S112x256 .f32) (harg17 : arg17.IsWhole)

set_option maxHeartbeats 4000000 in
/-- What the quantisation of eight heads stores into the codes and into the scales. -/
noncomputable def quantRun (hc : cond0_2 i) (x5 : Vec F S1x7168x256 .fp8e4m3) (x6 : Vec F S1x112x256 .f32) (x7 : Vec F S1x8x64x256 .f32) (fn : Vec F S112x256 .f32) :
    Σ' (LQ : List (View.Piece (Elt F) S1x512x256 .fp8e4m3)), { LS : List (View.Piece (Elt F) S1x8x256 .f32) //
      ∀ (qv : Vec F S1x512x256 .fp8e4m3) (sv : Vec F S1x8x256 .f32) (E : Set ℕ) (K : PUnit → sProp 𝕄),
        iprop(held c arg7 harg7 x5 ∗ held c arg8 harg8 x6 ∗ held c arg9 harg9 x7 ∗ held c arg11 harg11 qv ∗ held c arg12 harg12 sv ∗ held c arg17 harg17 fn
            ∗ (iprop(held c arg7 harg7 x5 ∗ held c arg8 harg8 x6 ∗ held c arg9 harg9 x7
                ∗ (arg11.view.loc (c : Thread nD τ) ↦[arg11.view.set]{fullShare} arg11.view.writes (Elt F) (harg11.unread qv) LQ)
                ∗ (arg12.view.loc (c : Thread nD τ) ↦[arg12.view.set]{fullShare} arg12.view.writes (Elt F) (harg12.unread sv) LS)
                ∗ held c arg17 harg17 fn) -∗ K ⟨⟩))
          ⊢ wp frame (wpE (defs₀ (F := F)) Variants.none c none) E (r2.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val)) K } := by
  refine ⟨?_, ?_, fun qv sv E K => ?run⟩
  case run =>
    rw [r3.eq]
    unfold r3 r3.tail
    simp only [k0_part64_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    iintro ⟨H5, H6, H7, HQ, HS, HF, Hk⟩
    sl_exec (disch := sl_exact hc)
    sl_step
    iapply Hk
    isplitl [H5]; · iexact H5
    isplitl [H6]; · iexact H6
    isplitl [H7]; · iexact H7
    isplitl [HQ]; · iexact HQ
    isplitl [HS]; · iexact HS
    iexact HF

/-- Where the condition fails the last branch does nothing. -/
theorem quant_skip (hc : ¬cond0_2 i) (E : Set ℕ) (K : PUnit → sProp 𝕄) :
    K ⟨⟩ ⊢ wp frame (wpE (defs₀ (F := F)) Variants.none c none) E (r2.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val)) K := by
  rw [r3.eq]
  unfold r3 r3.tail
  iintro Hk
  sl_exec (disch := sl_exact hc)
  sl_step
  iexact Hk

end Cert.KernelIdeal.Hand

end
-- ==== Proof.QuantVal.lean ====
/- What the quantisation of eight heads stores, element by element. -/
module

public import proofs.«01_k».proof.Proof.QuantRun
public import proofs.«01_k».proof.Proof.Base

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x112 .f32) (harg2 : arg2.IsWhole) (arg3 : Memref sig .tc .vmem S1x256x7168 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x112x4096 .f32) (harg6 : arg6.IsWhole) (arg7 : Memref sig .tc .vmem S1x7168x256 .fp8e4m3) (harg7 : arg7.IsWhole) (arg8 : Memref sig .tc .vmem S1x112x256 .f32) (harg8 : arg8.IsWhole) (arg9 : Memref sig .tc .vmem S1x8x64x256 .f32) (harg9 : arg9.IsWhole) (arg10 : Memref sig .tc .vmem S1x256x7168 .bf16) (harg10 : arg10.IsWhole) (arg11 : Memref sig .tc .vmem S1x512x256 .fp8e4m3) (harg11 : arg11.IsWhole) (arg12 : Memref sig .tc .vmem S1x8x256 .f32) (harg12 : arg12.IsWhole) (arg13 : Memref sig .tc .vmem S7168x256 .bf16) (harg13 : arg13.IsWhole) (arg14 : Memref sig .tc .vmem S112x128 .f32) (harg14 : arg14.IsWhole) (arg15 : Memref sig .tc .vmem S8x128 .f32) (harg15 : arg15.IsWhole) (arg16 : Memref sig .tc .vmem S256x128 .f32) (harg16 : arg16.IsWhole) (arg17 : Memref sig .tc .vmem S112x256 .f32) (harg17 : arg17.IsWhole)

open Pointwise

/-- One step of the search for the exponent of a power of two: the exponent grows by `s` unless the power passes `x`. -/
noncomputable def vstep (x : FVec F S1x256 .f32) (b : IVec S1x256 32) (s : BitVec 32) : IVec S1x256 32 :=
  select (cmpf .olt x (bitcastToFloat .f32 (shli (addi b (broadcast S1x256 s)) (broadcast S1x256 23#32)))) b (addi b (broadcast S1x256 s))

/-- The eight steps. -/
noncomputable def vsearch (x : FVec F S1x256 .f32) : IVec S1x256 32 :=
  vstep x (vstep x (vstep x (vstep x (vstep x (vstep x (vstep x (vstep x (broadcast S1x256 0#32) 128#32) 64#32) 32#32) 16#32) 8#32) 4#32) 2#32) 1#32

/-- The exponent of the scale. -/
noncomputable def vexp (amax : FVec F S1x256 .f32) (b : IVec S1x256 32) : IVec S1x256 32 :=
  select (ori (cmpf .oeq amax (broadcast S1x256 (Scalar.ofBits .f32 0x00000000#32))) (cmpi .eq b (broadcast S1x256 0#32))) (broadcast S1x256 0#32) (subi b (broadcast S1x256 126#32))

/-- The codes of one head. -/
noncomputable def vcodes (h : FVec F S64x256 .f32) (e : IVec S1x256 32) : FVec F S1x64x256 .fp8e4m3 :=
  shapeCast S1x64x256 (truncf .fp8e4m3 (minimumf (broadcast S64x256 (Scalar.ofBits .f32 0x43E00000#32)) (maximumf (broadcast S64x256 (Scalar.ofBits .f32 0xC3E00000#32))
    (mulf h (broadcastTo S64x256 (bitcastToFloat .f32 (shli (subi (broadcast S1x256 127#32) e) (broadcast S1x256 23#32))) broadcasts_S1x256_S64x256)))) bitsLt_fp8e4m3_f32) shapeCasts_S64x256_S1x64x256

/-- The scales of one head. -/
noncomputable def vscales (e : IVec S1x256 32) : FVec F S1x1x256 .f32 :=
  shapeCast S1x1x256 (bitcastToFloat (F := F) .f32 (shli (addi e (broadcast S1x256 127#32)) (broadcast S1x256 23#32))) shapeCasts_S1x256_S1x1x256

variable (hc : cond0_2 i) (x5 : Vec F S1x7168x256 .fp8e4m3) (x6 : Vec F S1x112x256 .f32) (x7 : Vec F S1x8x64x256 .f32) (fn : Vec F S112x256 .f32)

theorem sInb (j : Fin 8) (a : Fin S1x8x64x256.rank) : (![0, j.val, 0, 0] : Fin 4 → ℕ) a + S1x1x64x256.size a ≤ S1x8x64x256.size a := by
  fin_cases a <;> simp [Shape.size] <;> omega
theorem qInb (j : Fin 8) (a : Fin S1x512x256.rank) : (![0, 64 * j.val, 0] : Fin 3 → ℕ) a + S1x64x256.size a ≤ S1x512x256.size a := by
  fin_cases a <;> simp [Shape.size] <;> omega
theorem rInb (j : Fin 8) (a : Fin S1x8x256.rank) : (![0, j.val, 0] : Fin 3 → ℕ) a + S1x1x256.size a ≤ S1x8x256.size a := by
  fin_cases a <;> simp [Shape.size] <;> omega

/-- What head `8 T + j` is made of: its codes, its scales, its decay, its local part. -/
noncomputable abbrev ld5 (j : Fin 8) : Vec F S1x64x256 .fp8e4m3 := View.readAt (Elt F) arg7.view (Rect.unit (s := S1x7168x256) (k0_off2 i (BitVec.ofNat 32 j.val)) S1x64x256.size (k0_off2_inb i hc j)).toLoadRect (harg7.unread x5)
noncomputable abbrev ld6 (j : Fin 8) : Vec F S1x1x256 .f32 := View.readAt (Elt F) arg8.view (Rect.unit (s := S1x112x256) (k0_off3 i (BitVec.ofNat 32 j.val)) S1x1x256.size (k0_off3_inb i hc j)).toLoadRect (harg8.unread x6)
noncomputable abbrev ldf (j : Fin 8) : Vec F S1x256 .f32 := View.readAt (Elt F) arg17.view (Rect.unit (s := S112x256) (k0_off4 i (BitVec.ofNat 32 j.val)) S1x256.size (k0_off4_inb i hc j)).toLoadRect (harg17.unread fn)
noncomputable abbrev ld7 (j : Fin 8) : Vec F S1x1x64x256 .f32 := View.readAt (Elt F) arg9.view (Rect.unit (s := S1x8x64x256) ![0, j.val, 0, 0] S1x1x64x256.size (sInb j)).toLoadRect (harg9.unread x7)

/-- The state of head `8 T + j`. -/
noncomputable def hState (j : Fin 8) : FVec F S64x256 .f32 := k0_pay122 (ld5 i arg7 harg7 hc x5 j) (ld6 i arg8 harg8 hc x6 j) (ldf i arg17 harg17 hc fn j) (ld7 arg9 harg9 x7 j)
noncomputable def hMax (j : Fin 8) : FVec F S1x256 .f32 := k0_pay123 (ld5 i arg7 harg7 hc x5 j) (ld6 i arg8 harg8 hc x6 j) (ldf i arg17 harg17 hc fn j) (ld7 arg9 harg9 x7 j)
noncomputable def hExp (j : Fin 8) : IVec S1x256 32 :=
  vexp (hMax i arg7 harg7 arg8 harg8 arg9 harg9 arg17 harg17 hc x5 x6 x7 fn j)
    (vsearch (mulf (hMax i arg7 harg7 arg8 harg8 arg9 harg9 arg17 harg17 hc x5 x6 x7 fn j) (broadcast S1x256 (Scalar.ofBits .f32 0x3B124925#32))))

noncomputable def qPiece (j : Fin 8) : View.Piece (Elt F) S1x512x256 .fp8e4m3 :=
  ⟨Rect.unit (s := S1x512x256) ![0, 64 * j.val, 0] S1x64x256.size (qInb j),
    vcodes (hState i arg7 harg7 arg8 harg8 arg9 harg9 arg17 harg17 hc x5 x6 x7 fn j) (hExp i arg7 harg7 arg8 harg8 arg9 harg9 arg17 harg17 hc x5 x6 x7 fn j)⟩
noncomputable def rPiece (j : Fin 8) : View.Piece (Elt F) S1x8x256 .f32 :=
  ⟨Rect.unit (s := S1x8x256) ![0, j.val, 0] S1x1x256.size (rInb j),
    vscales (hExp i arg7 harg7 arg8 harg8 arg9 harg9 arg17 harg17 hc x5 x6 x7 fn j)⟩

set_option maxHeartbeats 2000000 in
theorem quant_q_pieces : (quantRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x5 x6 x7 fn).1 = (List.finRange 8).reverse.map (qPiece i arg7 harg7 arg8 harg8 arg9 harg9 arg17 harg17 hc x5 x6 x7 fn) := rfl
set_option maxHeartbeats 2000000 in
theorem quant_r_pieces : (quantRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x5 x6 x7 fn).2.1 = (List.finRange 8).reverse.map (rPiece i arg7 harg7 arg8 harg8 arg9 harg9 arg17 harg17 hc x5 x6 x7 fn) := rfl

/-- The float whose bits are the word with `b` where the exponent stands. -/
noncomputable def thr (b : BitVec 32) : EReal := Ideal.ofBits .f32 (b <<< 23)

/-- One step of the search, on one number. -/
noncomputable def sstep (x : EReal) (b : BitVec 32) (s : BitVec 32) : BitVec 32 := if x < thr (b + s) then b else b + s

theorem vstep_eq (x : FVec Ideal S1x256 .f32) (b : IVec S1x256 32) (s : BitVec 32) (y : S1x256.Idx) : vstep x b s y = sstep (x y) (b y) s := by
  unfold vstep sstep thr
  pointwise
  rfl

/-- The eight steps, on one number. -/
noncomputable def search (x : EReal) : BitVec 32 :=
  sstep x (sstep x (sstep x (sstep x (sstep x (sstep x (sstep x (sstep x 0#32 128#32) 64#32) 32#32) 16#32) 8#32) 4#32) 2#32) 1#32

theorem vsearch_eq (x : FVec Ideal S1x256 .f32) (y : S1x256.Idx) : vsearch x y = search (x y) := by
  unfold vsearch search
  simp only [vstep_eq]
  rfl

/-- The exponent of the scale, on one number. -/
noncomputable def expo (amax : EReal) : BitVec 32 :=
  if amax = 0 ∨ search (amax * Ideal.ofBits .f32 0x3B124925#32) = 0#32 then 0#32 else search (amax * Ideal.ofBits .f32 0x3B124925#32) - 126#32

theorem vexp_eq (m : FVec Ideal S1x256 .f32) (y : S1x256.Idx) :
    vexp m (vsearch (mulf m (broadcast S1x256 (Scalar.ofBits .f32 0x3B124925#32)))) y = expo (m y) := by
  unfold vexp expo
  pointwise
  rw [vsearch_eq]
  pointwise
  generalize search (m y * Ideal.ofBits FTy.f32 991054117#32) = b
  have hb : (b == 0#32) = decide (b = 0#32) := rfl
  by_cases h : m y = 0 <;> by_cases h' : b = 0#32 <;> simp [Scalar.select, IntOp.cmpi, IntOp.ori, IntOp.subi, hb, h, h']

/-- The code of the element `h` of a row whose largest magnitude is `m`. -/
noncomputable def codeOf (m h : EReal) : EReal := min (Ideal.ofBits .f32 0x43E00000#32) (max (Ideal.ofBits .f32 0xC3E00000#32) (h * thr (127#32 - expo m)))

/-- The scale of a row whose largest magnitude is `m`. -/
noncomputable def scaleOf (m : EReal) : EReal := thr (expo m + 127#32)

theorem vcodes_eq (h : FVec Ideal S64x256 .f32) (e : IVec S1x256 32) (y : S1x64x256.Idx) :
    vcodes h e y = min (Ideal.ofBits .f32 0x43E00000#32) (max (Ideal.ofBits .f32 0xC3E00000#32) (h (ix2 (y 1) (y 2)) * thr (127#32 - e (ix2 0 (y 2))))) := by
  unfold vcodes thr
  pointwise
  rfl

theorem vscales_eq (e : IVec S1x256 32) (y : S1x1x256.Idx) : vscales (F := Ideal) e y = thr (e (ix2 0 (y 2)) + 127#32) := by
  unfold vscales thr
  pointwise
  rfl

/-- The state of head `h`, the `j`-th of its eight, at row `p` and column `k`. -/
noncomputable def hAt (x5 : Vec Ideal S1x7168x256 .fp8e4m3) (x6 : Vec Ideal S1x112x256 .f32) (x7 : Vec Ideal S1x8x64x256 .f32) (fn : Vec Ideal S112x256 .f32) (h : Fin 112) (j : Fin 8) (p : Fin 64) (k : Fin 256) : EReal :=
  fn (ix2 h k) * (x5 (ix3 0 ⟨64 * h.val + p.val, by omega⟩ k) * x6 (ix3 0 h k)) + x7 (ix4 0 j p k)

/-- The largest magnitude of a column of the state. -/
noncomputable def mAt (x5 : Vec Ideal S1x7168x256 .fp8e4m3) (x6 : Vec Ideal S1x112x256 .f32) (x7 : Vec Ideal S1x8x64x256 .f32) (fn : Vec Ideal S112x256 .f32) (h : Fin 112) (j : Fin 8) (k : Fin 256) : EReal :=
  Finset.fold max (Ideal.ofBits .f32 0xFF800000#32) (fun p : Fin 64 => FloatOps.absf (F := Ideal) (φ := .f32) (hAt x5 x6 x7 fn h j p k)) Finset.univ

/-- The block of codes of the eight heads from `8 T` on. -/
noncomputable def qBlk (T : Fin 14) (x5 : Vec Ideal S1x7168x256 .fp8e4m3) (x6 : Vec Ideal S1x112x256 .f32) (x7 : Vec Ideal S1x8x64x256 .f32) (fn : Vec Ideal S112x256 .f32) : Vec Ideal S1x512x256 .fp8e4m3 := fun y =>
  codeOf (mAt x5 x6 x7 fn ⟨8 * T.val + (y 1).val / 64, by have : (y 1).val < 512 := (y 1).isLt; omega⟩ ⟨(y 1).val / 64, by have : (y 1).val < 512 := (y 1).isLt; omega⟩ (y 2))
    (hAt x5 x6 x7 fn ⟨8 * T.val + (y 1).val / 64, by have : (y 1).val < 512 := (y 1).isLt; omega⟩ ⟨(y 1).val / 64, by have : (y 1).val < 512 := (y 1).isLt; omega⟩ ⟨(y 1).val % 64, by omega⟩ (y 2))

/-- The block of scales of the eight heads from `8 T` on. -/
noncomputable def rBlk (T : Fin 14) (x5 : Vec Ideal S1x7168x256 .fp8e4m3) (x6 : Vec Ideal S1x112x256 .f32) (x7 : Vec Ideal S1x8x64x256 .f32) (fn : Vec Ideal S112x256 .f32) : Vec Ideal S1x8x256 .f32 := fun y =>
  scaleOf (mAt x5 x6 x7 fn ⟨8 * T.val + (y 1).val, by have : (y 1).val < 8 := (y 1).isLt; omega⟩ (y 1) (y 2))

section Ideal

variable (hc : cond0_2 i) (T : Fin 14) (hT : (i 1).val = T.val) (x5 : Vec Ideal S1x7168x256 .fp8e4m3) (x6 : Vec Ideal S1x112x256 .f32) (x7 : Vec Ideal S1x8x64x256 .f32) (fn : Vec Ideal S112x256 .f32)

include hT in
theorem hState_eq (j : Fin 8) (p : Fin 64) (k : Fin 256) :
    hState i arg7 harg7 arg8 harg8 arg9 harg9 arg17 harg17 hc x5 x6 x7 fn j (ix2 p k) = hAt x5 x6 x7 fn ⟨8 * T.val + j.val, by omega⟩ j p k := by
  unfold hState hAt
  simp only [View.readAt_eq_ld, Memref.IsWhole.read_unread]
  pointwise [k0_pay122]
  refine congrArg₂ (· + ·) (congrArg₂ (· * ·) (congrArg fn (funext fun a => Fin.ext ?_)) (congrArg₂ (· * ·) (congrArg x5 (funext fun a => Fin.ext ?_)) (congrArg x6 (funext fun a => Fin.ext ?_)))) rfl
  · fin_cases a <;> simp [ix2, k0_off4_eq i j, hT]
  · fin_cases a <;> simp [ix3, k0_off2_eq i j, hT] <;> omega
  · fin_cases a <;> simp [ix3, k0_off3_eq i j, hT]

include hT in
theorem hMax_eq (j : Fin 8) (k : Fin 256) :
    hMax i arg7 harg7 arg8 harg8 arg9 harg9 arg17 harg17 hc x5 x6 x7 fn j (ix2 0 k) = mAt x5 x6 x7 fn ⟨8 * T.val + j.val, by omega⟩ j k := by
  show k0_pay123 _ _ _ _ _ = _
  unfold k0_pay123
  pointwise
  refine congrArg (fun f => Finset.fold max _ f Finset.univ) (funext fun p => congrArg _ ?_)
  exact hState_eq i arg7 harg7 arg8 harg8 arg9 harg9 arg17 harg17 hc T hT x5 x6 x7 fn j p k

include hT in
theorem hExp_eq (j : Fin 8) (k : Fin 256) :
    hExp i arg7 harg7 arg8 harg8 arg9 harg9 arg17 harg17 hc x5 x6 x7 fn j (ix2 0 k) = expo (mAt x5 x6 x7 fn ⟨8 * T.val + j.val, by omega⟩ j k) := by
  unfold hExp
  rw [vexp_eq, hMax_eq i arg7 harg7 arg8 harg8 arg9 harg9 arg17 harg17 hc T hT]

include hT in
theorem quant_q (f : arg11.view.ty.Contents (Elt Ideal)) :
    arg11.view.writes (Elt Ideal) f (quantRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x5 x6 x7 fn).1 = harg11.unread (qBlk T x5 x6 x7 fn) := by
  refine harg11.eq_unread (funext fun y => ?_)
  have hy : (y 1).val < 512 := (y 1).isLt
  have hcov : ∃ p ∈ (quantRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x5 x6 x7 fn).1, y ∈ p.1.set := by
    rw [quant_q_pieces]
    have hm : y ∈ (Rect.unit (s := S1x512x256) ![0, 64 * (⟨(y 1).val / 64, by omega⟩ : Fin 8).val, 0] S1x64x256.size (qInb _)).set := by
      refine Rect.mem_set_unit.2 fun a => ?_
      have h0 : (y 0).val < 1 := (y 0).isLt
      have h2 : (y 2).val < 256 := (y 2).isLt
      fin_cases a <;> simp [Shape.size] <;> omega
    exact ⟨_, List.mem_map.2 ⟨⟨(y 1).val / 64, by omega⟩, by simp, rfl⟩, hm⟩
  rw [View.read_writes_apply_eq_canon _ _ _ _ hcov]
  refine View.canon_apply_of_pieces (qBlk T x5 x6 x7 fn) _ ?_ y hcov
  rw [quant_q_pieces]
  intro p hp
  obtain ⟨j, -, rfl⟩ := List.mem_map.1 hp
  intro x
  have h1 : (x 1).val < 64 := (x 1).isLt
  have e1 : ((qPiece i arg7 harg7 arg8 harg8 arg9 harg9 arg17 harg17 hc x5 x6 x7 fn j).1.emb x 1).val = 64 * j.val + (x 1).val := emb_unit_val _ _ (qInb j) x 1
  have e2 : ((qPiece i arg7 harg7 arg8 harg8 arg9 harg9 arg17 harg17 hc x5 x6 x7 fn j).1.emb x 2).val = (x 2).val := (emb_unit_val _ _ (qInb j) x 2).trans (Nat.zero_add _)
  have key : ∀ (j' : Fin 8) (p p' : Fin 64) (k k' : Fin 256), j' = j → p' = p → k' = k →
      codeOf (mAt x5 x6 x7 fn ⟨8 * T.val + j.val, by omega⟩ j k) (hAt x5 x6 x7 fn ⟨8 * T.val + j.val, by omega⟩ j p k)
        = codeOf (mAt x5 x6 x7 fn ⟨8 * T.val + j'.val, by omega⟩ j' k') (hAt x5 x6 x7 fn ⟨8 * T.val + j'.val, by omega⟩ j' p' k') := by
    rintro j' p p' k k' rfl rfl rfl
    rfl
  refine (vcodes_eq _ _ x).trans ?_
  refine Eq.trans ?_ (key ⟨((qPiece i arg7 harg7 arg8 harg8 arg9 harg9 arg17 harg17 hc x5 x6 x7 fn j).1.emb x 1).val / 64, by omega⟩ (x 1) ⟨((qPiece i arg7 harg7 arg8 harg8 arg9 harg9 arg17 harg17 hc x5 x6 x7 fn j).1.emb x 1).val % 64, by omega⟩ (x 2) _ (Fin.ext (by show _ / 64 = _; omega)) (Fin.ext (by show _ % 64 = _; omega)) (Fin.ext e2))
  exact congrArg₂ (fun h e => min _ (max _ (h * thr (127#32 - e)))) (hState_eq i arg7 harg7 arg8 harg8 arg9 harg9 arg17 harg17 hc T hT x5 x6 x7 fn j (x 1) (x 2)) (hExp_eq i arg7 harg7 arg8 harg8 arg9 harg9 arg17 harg17 hc T hT x5 x6 x7 fn j (x 2))

include hT in
theorem quant_r (f : arg12.view.ty.Contents (Elt Ideal)) :
    arg12.view.writes (Elt Ideal) f (quantRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x5 x6 x7 fn).2.1 = harg12.unread (rBlk T x5 x6 x7 fn) := by
  refine harg12.eq_unread (funext fun y => ?_)
  have hy : (y 1).val < 8 := (y 1).isLt
  have hcov : ∃ p ∈ (quantRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x5 x6 x7 fn).2.1, y ∈ p.1.set := by
    rw [quant_r_pieces]
    have hm : y ∈ (Rect.unit (s := S1x8x256) ![0, (⟨(y 1).val, by omega⟩ : Fin 8).val, 0] S1x1x256.size (rInb _)).set := by
      refine Rect.mem_set_unit.2 fun a => ?_
      have h0 : (y 0).val < 1 := (y 0).isLt
      have h2 : (y 2).val < 256 := (y 2).isLt
      fin_cases a <;> simp [Shape.size] <;> omega
    exact ⟨_, List.mem_map.2 ⟨(⟨(y 1).val, by omega⟩ : Fin 8), List.mem_reverse.2 (List.mem_finRange _), rfl⟩, hm⟩
  rw [View.read_writes_apply_eq_canon _ _ _ _ hcov]
  refine View.canon_apply_of_pieces (rBlk T x5 x6 x7 fn) _ ?_ y hcov
  rw [quant_r_pieces]
  intro p hp
  obtain ⟨j, -, rfl⟩ := List.mem_map.1 hp
  intro x
  have h1 : (x 1).val < 1 := (x 1).isLt
  have e1 : ((rPiece i arg7 harg7 arg8 harg8 arg9 harg9 arg17 harg17 hc x5 x6 x7 fn j).1.emb x 1).val = j.val + (x 1).val := emb_unit_val _ _ (rInb j) x 1
  have e2 : ((rPiece i arg7 harg7 arg8 harg8 arg9 harg9 arg17 harg17 hc x5 x6 x7 fn j).1.emb x 2).val = (x 2).val := (emb_unit_val _ _ (rInb j) x 2).trans (Nat.zero_add _)
  have key : ∀ (j' : Fin 8) (k k' : Fin 256), j' = j → k' = k →
      scaleOf (mAt x5 x6 x7 fn ⟨8 * T.val + j.val, by omega⟩ j k) = scaleOf (mAt x5 x6 x7 fn ⟨8 * T.val + j'.val, by omega⟩ j' k') := by
    rintro j' k k' rfl rfl
    rfl
  refine (vscales_eq _ x).trans ?_
  refine Eq.trans ?_ (key _ (x 2) _ (Fin.ext (by rw [e1]; omega)) (Fin.ext e2))
  exact congrArg (fun e => thr (e + 127#32)) (hExp_eq i arg7 harg7 arg8 harg8 arg9 harg9 arg17 harg17 hc T hT x5 x6 x7 fn j (x 2))

end Ideal

end Cert.KernelIdeal.Hand

end
-- ==== Proof.PointRun.lean ====
/- One grid point: what the body leaves in every buffer, as a function of the inputs. -/
module

public import proofs.«01_k».proof.Proof.SetupVal
public import proofs.«01_k».proof.Proof.SumsVal
public import proofs.«01_k».proof.Proof.TilesVal
public import proofs.«01_k».proof.Proof.QuantVal
public import proofs.«01_k».proof.Proof.Base

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable (c : Dev nD) (i : grid0.Coords) (arg2 : Memref sig .tc .vmem S1x112 .f32) (harg2 : arg2.IsWhole) (arg3 : Memref sig .tc .vmem S1x256x7168 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x112x4096 .f32) (harg6 : arg6.IsWhole) (arg7 : Memref sig .tc .vmem S1x7168x256 .fp8e4m3) (harg7 : arg7.IsWhole) (arg8 : Memref sig .tc .vmem S1x112x256 .f32) (harg8 : arg8.IsWhole) (arg9 : Memref sig .tc .vmem S1x8x64x256 .f32) (harg9 : arg9.IsWhole) (arg10 : Memref sig .tc .vmem S1x256x7168 .bf16) (harg10 : arg10.IsWhole) (arg11 : Memref sig .tc .vmem S1x512x256 .fp8e4m3) (harg11 : arg11.IsWhole) (arg12 : Memref sig .tc .vmem S1x8x256 .f32) (harg12 : arg12.IsWhole) (arg13 : Memref sig .tc .vmem S7168x256 .bf16) (harg13 : arg13.IsWhole) (arg14 : Memref sig .tc .vmem S112x128 .f32) (harg14 : arg14.IsWhole) (arg15 : Memref sig .tc .vmem S8x128 .f32) (harg15 : arg15.IsWhole) (arg16 : Memref sig .tc .vmem S256x128 .f32) (harg16 : arg16.IsWhole) (arg17 : Memref sig .tc .vmem S112x256 .f32) (harg17 : arg17.IsWhole)

open Pointwise

/- The first part of the running sums: the two conditional set-ups, then the first loads. -/
cut_chain p := Cert.KernelIdeal.Gen.k0_part65_skel at 2, 3

/-- The negated exponential of the logarithms, one number a head. -/
noncomputable def aOf (x0 : Vec Ideal S1x112 .f32) (h : Fin 112) : EReal := 0 - Ideal.exp (x0 (ix2 0 h))

/-- The decay of the whole sequence, the same in every column. -/
noncomputable def fTab (x4 : Vec Ideal S1x112x4096 .f32) (A : Fin 112 → EReal) : Vec Ideal S112x256 .f32 := fun y => Ideal.exp (∑ s ∈ Finset.range 4096, dA x4 A (y 0) s)

variable (x0 : Vec Ideal S1x112 .f32) (x4 : Vec Ideal S1x112x4096 .f32) (x5 : Vec Ideal S1x7168x256 .fp8e4m3) (x6 : Vec Ideal S1x112x256 .f32) (A : Fin 112 → EReal)

theorem aCol_writes (f : arg14.view.ty.Contents (Elt Ideal)) :
    arg14.view.writes (Elt Ideal) f [⟨Rect.unit (s := S112x128) ![0, 0] S112x128.size inb_S112x128_S112x128_0_0,
      k0_pay204 (View.readAt (Elt Ideal) arg2.view (Rect.unit (s := S1x112) ![0, 0] S1x112.size inb_S1x112_S1x112_0_0).toLoadRect (harg2.unread x0))⟩]
      = harg14.unread (fun y => aOf x0 (y 0)) := by
  refine (writes_whole arg14 harg14 f _ _ _).trans (congrArg harg14.unread (funext fun y => ?_))
  simp only [View.readAt_eq_ld, Memref.IsWhole.read_unread]
  pointwise [k0_pay204]
  rfl

theorem fTab_writes (f : arg17.view.ty.Contents (Elt Ideal)) (v : FVec Ideal S112x1 .f32) (hv : v = fun y => Ideal.exp (∑ s ∈ Finset.range 4096, dA x4 A (y 0) s)) :
    arg17.view.writes (Elt Ideal) f [⟨Rect.unit (s := S112x256) ![0, 0] S112x256.size inb_S112x256_S112x256_0_0, k0_pay205 v⟩]
      = harg17.unread (fTab x4 A) := by
  subst hv
  refine (writes_whole arg17 harg17 f _ _ _).trans (congrArg harg17.unread (funext fun y => ?_))
  pointwise [k0_pay205]
  rfl

/-- The column of decay rates is in place after the first conditional. -/
theorem p1_spec {R : Type} (a : Vec Ideal S112x128 .f32) (h : ¬cond0_0 i → a = fun y => aOf x0 (y 0)) (E : Set ℕ) (κ : Prog (TpuEff nD τ sig (Elt Ideal) Λ₀ .tc) R) (K : R → sProp 𝕄) :
    iprop(held c arg2 harg2 x0 ∗ held c arg14 harg14 a
        ∗ (iprop(held c arg2 harg2 x0 ∗ held c arg14 harg14 (fun y => aOf x0 (y 0))) -∗ wp frame (wpE (defs₀ (F := Ideal)) Variants.none c none) E κ K))
      ⊢ wp frame (wpE (defs₀ (F := Ideal)) Variants.none c none) E (p1 i arg2 arg14 κ) K := by
  by_cases hc : cond0_0 i
  · unfold p1
    iintro ⟨H0, HA, Hk⟩
    sl_exec (disch := sl_exact hc)
    rw [aCol_writes arg2 harg2 arg14 harg14 x0]
    iapply Hk
    isplitl [H0]; · iexact H0
    iexact HA
  · obtain rfl := h hc
    unfold p1
    iintro ⟨H0, HA, Hk⟩
    sl_exec (disch := sl_exact hc)
    iapply Hk
    isplitl [H0]; · iexact H0
    iexact HA

/-- The set-up branch as a rule. -/
theorem setup_spec (w : Vec Ideal S7168x256 .bf16) (cv : Vec Ideal S8x128 .f32) (E : Set ℕ) (K : FVec Ideal S112x1 .f32 → sProp 𝕄) :
    iprop(held c arg6 harg6 x4 ∗ held c arg7 harg7 x5 ∗ held c arg8 harg8 x6 ∗ held c arg13 harg13 w ∗ held c arg14 harg14 (fun y => A (y 0)) ∗ held c arg15 harg15 cv
        ∗ (iprop(held c arg6 harg6 x4 ∗ held c arg7 harg7 x5 ∗ held c arg8 harg8 x6 ∗ held c arg13 harg13 (wTab x5 x6) ∗ held c arg14 harg14 (fun y => A (y 0)) ∗ held c arg15 harg15 (fun _ => 0))
          -∗ K (fun y => Ideal.exp (∑ s ∈ Finset.range 4096, dA x4 A (y 0) s))))
      ⊢ wp frame (wpE (defs₀ (F := Ideal)) Variants.none c none) E (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have h := (setupRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 (fun y => A (y 0))).2.2.2 w cv E K
  rw [setup_w, setup_c, setup_f] at h
  exact h

/-- The table, the carry and the decay of the sequence are in place after the second conditional. -/
theorem p2_spec {R : Type} (w : Vec Ideal S7168x256 .bf16) (cv cv' : Vec Ideal S8x128 .f32) (fn : Vec Ideal S112x256 .f32)
    (h : ¬cond0_1 i → w = wTab x5 x6 ∧ fn = fTab x4 A ∧ cv' = cv) (h' : cond0_1 i → cv' = fun _ => 0)
    (E : Set ℕ) (κ : Prog (TpuEff nD τ sig (Elt Ideal) Λ₀ .tc) R) (K : R → sProp 𝕄) :
    iprop(held c arg6 harg6 x4 ∗ held c arg7 harg7 x5 ∗ held c arg8 harg8 x6 ∗ held c arg13 harg13 w ∗ held c arg14 harg14 (fun y => A (y 0)) ∗ held c arg15 harg15 cv ∗ held c arg17 harg17 fn
        ∗ (iprop(held c arg6 harg6 x4 ∗ held c arg7 harg7 x5 ∗ held c arg8 harg8 x6 ∗ held c arg13 harg13 (wTab x5 x6) ∗ held c arg14 harg14 (fun y => A (y 0)) ∗ held c arg15 harg15 cv' ∗ held c arg17 harg17 (fTab x4 A))
          -∗ wp frame (wpE (defs₀ (F := Ideal)) Variants.none c none) E κ K))
      ⊢ wp frame (wpE (defs₀ (F := Ideal)) Variants.none c none) E (p2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 κ) K := by
  by_cases hc : cond0_1 i
  · obtain rfl := h' hc
    unfold p2
    simp only [dif_pos hc]
    iintro ⟨H4, H5, H6, HW, HA, HC, HF, Hk⟩
    rw [wp_bind]
    iapply setup_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 A w cv
    isplitl [H4]; · iexact H4
    isplitl [H5]; · iexact H5
    isplitl [H6]; · iexact H6
    isplitl [HW]; · iexact HW
    isplitl [HA]; · iexact HA
    isplitl [HC]; · iexact HC
    iintro ⟨H4, H5, H6, HW, HA, HC⟩
    sl_exec
    rw [fTab_writes arg17 harg17 x4 A _ _ rfl]
    iapply Hk
    isplitl [H4]; · iexact H4
    isplitl [H5]; · iexact H5
    isplitl [H6]; · iexact H6
    isplitl [HW]; · iexact HW
    isplitl [HA]; · iexact HA
    isplitl [HC]; · iexact HC
    iexact HF
  · obtain ⟨rfl, rfl, rfl⟩ := h hc
    unfold p2
    iintro ⟨H4, H5, H6, HW, HA, HC, HF, Hk⟩
    sl_exec (disch := sl_exact hc)
    iapply Hk
    isplitl [H4]; · iexact H4
    isplitl [H5]; · iexact H5
    isplitl [H6]; · iexact H6
    isplitl [HW]; · iexact HW
    isplitl [HA]; · iexact HA
    isplitl [HC]; · iexact HC
    iexact HF

/-- The first stretch: both conditionals and the first loads. -/
theorem q1_spec {R : Type} (w : Vec Ideal S7168x256 .bf16) (a : Vec Ideal S112x128 .f32) (cv cv' : Vec Ideal S8x128 .f32) (fn : Vec Ideal S112x256 .f32)
    (ha : ¬cond0_0 i → a = fun y => aOf x0 (y 0))
    (h : ¬cond0_1 i → w = wTab x5 x6 ∧ fn = fTab x4 (aOf x0) ∧ cv' = cv) (h' : cond0_1 i → cv' = fun _ => 0)
    (E : Set ℕ) (κ : BitVec 32 → IVec S8x112 32 → Vec Ideal S8x112 .f32 → FVec Ideal S128x112 .f32 → FVec Ideal S8x112 .f32 → IVec S8x112 1 → FVec Ideal S8x112 .f32 → Prog (TpuEff nD τ sig (Elt Ideal) Λ₀ .tc) R) (K : R → sProp 𝕄) :
    iprop(held c arg2 harg2 x0 ∗ held c arg6 harg6 x4 ∗ held c arg7 harg7 x5 ∗ held c arg8 harg8 x6 ∗ held c arg13 harg13 w ∗ held c arg14 harg14 a ∗ held c arg15 harg15 cv ∗ held c arg17 harg17 fn
        ∗ (iprop(held c arg2 harg2 x0 ∗ held c arg6 harg6 x4 ∗ held c arg7 harg7 x5 ∗ held c arg8 harg8 x6 ∗ held c arg13 harg13 (wTab x5 x6) ∗ held c arg14 harg14 (fun y => aOf x0 (y 0)) ∗ held c arg15 harg15 cv' ∗ held c arg17 harg17 (fTab x4 (aOf x0)))
          -∗ wp frame (wpE (defs₀ (F := Ideal)) Variants.none c none) E
            (κ (BitVec.ofNat 32 (i 1).val) (iota .tc S8x112 32 [0] iota_S8x112_d0_w32) (ldCarry arg15 harg15 cv')
              (k0_pay206 (View.readAt (Elt Ideal) arg6.view (Rect.unit (s := S1x112x4096) (k0_off1 i 0#32) S1x112x128.size (k0_off1_inb i 0)).toLoadRect (harg6.unread x4)) (View.readAt (Elt Ideal) arg14.view (Rect.unit (s := S112x128) ![0, 0] S112x128.size inb_S112x128_S112x128_0_0).toLoadRect (harg14.unread (fun y => aOf x0 (y 0)))))
              (k0_pay207 (View.readAt (Elt Ideal) arg6.view (Rect.unit (s := S1x112x4096) (k0_off1 i 0#32) S1x112x128.size (k0_off1_inb i 0)).toLoadRect (harg6.unread x4)) (View.readAt (Elt Ideal) arg14.view (Rect.unit (s := S112x128) ![0, 0] S112x128.size inb_S112x128_S112x128_0_0).toLoadRect (harg14.unread (fun y => aOf x0 (y 0)))))
              k0_pay208
              (k0_pay209 (View.readAt (Elt Ideal) arg6.view (Rect.unit (s := S1x112x4096) (k0_off1 i 0#32) S1x112x128.size (k0_off1_inb i 0)).toLoadRect (harg6.unread x4)) (View.readAt (Elt Ideal) arg14.view (Rect.unit (s := S112x128) ![0, 0] S112x128.size inb_S112x128_S112x128_0_0).toLoadRect (harg14.unread (fun y => aOf x0 (y 0)))))) K))
      ⊢ wp frame (wpE (defs₀ (F := Ideal)) Variants.none c none) E (q1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 κ) K := by
  unfold q1
  rw [wp_bind, k0_part65_eq_skeleton, p1.eq]
  iintro ⟨H0, H4, H5, H6, HW, HA, HC, HF, Hk⟩
  iapply p1_spec c i arg2 harg2 arg14 harg14 x0 a ha
  isplitl [H0]; · iexact H0
  isplitl [HA]; · iexact HA
  iintro ⟨H0, HA⟩
  rw [p2.eq]
  iapply p2_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 (aOf x0) w cv cv' fn h h'
  isplitl [H4]; · iexact H4
  isplitl [H5]; · iexact H5
  isplitl [H6]; · iexact H6
  isplitl [HW]; · iexact HW
  isplitl [HA]; · iexact HA
  isplitl [HC]; · iexact HC
  isplitl [HF]; · iexact HF
  iintro ⟨H4, H5, H6, HW, HA, HC, HF⟩
  unfold p2.tail
  sl_exec
  iapply Hk
  isplitl [H0]; · iexact H0
  isplitl [H4]; · iexact H4
  isplitl [H5]; · iexact H5
  isplitl [H6]; · iexact H6
  isplitl [HW]; · iexact HW
  isplitl [HA]; · iexact HA
  isplitl [HC]; · iexact HC
  iexact HF

/-- The second stretch: the decays of the block and the carry of the next. -/
theorem sums_spec {R : Type} (cv : Vec Ideal S8x128 .f32) (hcv : CarryAt x4 A (256 * (i 1).val) cv) (d : Vec Ideal S256x128 .f32) :
    ∃ (d' : Vec Ideal S256x128 .f32) (cv' : Vec Ideal S8x128 .f32), DecayAt x4 A (256 * (i 1).val) d' ∧ CarryAt x4 A (256 * ((i 1).val + 1)) cv' ∧
      ∀ (E : Set ℕ) (κ : IVec S256x128 32 → BitVec 32 → IVec S256x128 32 → IVec S256x128 32 → BitVec 1 → Prog (TpuEff nD τ sig (Elt Ideal) Λ₀ .tc) R) (K : R → sProp 𝕄),
        iprop(held c arg6 harg6 x4 ∗ held c arg14 harg14 (fun y => A (y 0)) ∗ held c arg15 harg15 cv ∗ held c arg16 harg16 d
            ∗ (iprop(held c arg6 harg6 x4 ∗ held c arg14 harg14 (fun y => A (y 0)) ∗ held c arg15 harg15 cv' ∗ held c arg16 harg16 d')
              -∗ wp frame (wpE (defs₀ (F := Ideal)) Variants.none c none) E (κ (iota .tc S256x128 32 [1] iota_S256x128_d1_w32) 64#32 k0_pay328 k0_pay329 (Scalar.cmpi .sgt 64#32 0#32)) K))
          ⊢ wp frame (wpE (defs₀ (F := Ideal)) Variants.none c none) E (q2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (iota .tc S8x112 32 [0] iota_S8x112_d0_w32) (ldCarry arg15 harg15 cv)
              (k0_pay206 (View.readAt (Elt Ideal) arg6.view (Rect.unit (s := S1x112x4096) (k0_off1 i 0#32) S1x112x128.size (k0_off1_inb i 0)).toLoadRect (harg6.unread x4)) (View.readAt (Elt Ideal) arg14.view (Rect.unit (s := S112x128) ![0, 0] S112x128.size inb_S112x128_S112x128_0_0).toLoadRect (harg14.unread (fun y => A (y 0))))) (k0_pay207 (View.readAt (Elt Ideal) arg6.view (Rect.unit (s := S1x112x4096) (k0_off1 i 0#32) S1x112x128.size (k0_off1_inb i 0)).toLoadRect (harg6.unread x4)) (View.readAt (Elt Ideal) arg14.view (Rect.unit (s := S112x128) ![0, 0] S112x128.size inb_S112x128_S112x128_0_0).toLoadRect (harg14.unread (fun y => A (y 0))))) k0_pay208 (k0_pay209 (View.readAt (Elt Ideal) arg6.view (Rect.unit (s := S1x112x4096) (k0_off1 i 0#32) S1x112x128.size (k0_off1_inb i 0)).toLoadRect (harg6.unread x4)) (View.readAt (Elt Ideal) arg14.view (Rect.unit (s := S112x128) ![0, 0] S112x128.size inb_S112x128_S112x128_0_0).toLoadRect (harg14.unread (fun y => A (y 0))))) κ) K := by
  obtain ⟨d', ed, hd⟩ := sums_d c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 A cv hcv (harg16.unread d)
  obtain ⟨cv', ec, hc⟩ := sums_c c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 A cv hcv (harg15.unread cv)
  refine ⟨d', cv', hd, hc, fun E κ K => ?_⟩
  have h := (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 (fun y => A (y 0)) (ldCarry arg15 harg15 cv)).2.2 d cv E κ K
  rw [ed, ec] at h
  exact h

/-- The block of `y` of the tokens from `n` on. -/
noncomputable def yBlk (x1 : Vec Ideal S1x256x7168 .bf16) (x2 x3 : Vec Ideal S1x2048x128 .bf16) (x4 : Vec Ideal S1x112x4096 .f32) (x5 : Vec Ideal S1x7168x256 .fp8e4m3) (x6 : Vec Ideal S1x112x256 .f32) (A : Fin 112 → EReal) (n : ℕ) : Vec Ideal S1x256x7168 .bf16 := fun y =>
  x1 (ix3 0 (y 1) (y 2)) + (∑ k : Fin 256, cAt x2 x3 (y 1) ⟨(y 2).val / 896, by have : (y 2).val < 7168 := (y 2).isLt; omega⟩ k * wTab x5 x6 (ix2 (y 2) k))
    * Ideal.exp (∑ s ∈ Finset.range (n + (y 1).val + 1), dA x4 A ⟨(y 2).val / 64, by have : (y 2).val < 7168 := (y 2).isLt; omega⟩ s)

theorem yTile_of (x1 : Vec Ideal S1x256x7168 .bf16) (x2 x3 : Vec Ideal S1x2048x128 .bf16) (n : ℕ) (d : Vec Ideal S256x128 .f32) (hd : DecayAt x4 A n d) :
    yTile x1 x2 x3 (wTab x5 x6) d = yBlk x1 x2 x3 x4 x5 x6 A n := by
  funext y
  exact congrArg (fun z => x1 (ix3 0 (y 1) (y 2)) + (∑ k : Fin 256, cAt x2 x3 (y 1) ⟨(y 2).val / 896, by have : (y 2).val < 7168 := (y 2).isLt; omega⟩ k * wTab x5 x6 (ix2 (y 2) k)) * z)
    (hd (y 1) ⟨(y 2).val / 64, by have : (y 2).val < 7168 := (y 2).isLt; omega⟩)

variable (x1 : Vec Ideal S1x256x7168 .bf16) (x2 x3 : Vec Ideal S1x2048x128 .bf16) (x7 : Vec Ideal S1x8x64x256 .f32)

set_option maxHeartbeats 1000000 in
/-- The third stretch: the tiles of `y`. -/
theorem tiles_spec (w : Vec Ideal S7168x256 .bf16) (d : Vec Ideal S256x128 .f32) (y : Vec Ideal S1x256x7168 .bf16) (E : Set ℕ) (κ : BitVec 32 → Prog (TpuEff nD τ sig (Elt Ideal) Λ₀ .tc) PUnit) (K : PUnit → sProp 𝕄) :
    iprop(held c arg3 harg3 x1 ∗ held c arg4 harg4 x2 ∗ held c arg5 harg5 x3 ∗ held c arg10 harg10 y ∗ held c arg13 harg13 w ∗ held c arg16 harg16 d
        ∗ (iprop(held c arg3 harg3 x1 ∗ held c arg4 harg4 x2 ∗ held c arg5 harg5 x3 ∗ held c arg10 harg10 (yTile x1 x2 x3 w d) ∗ held c arg13 harg13 w ∗ held c arg16 harg16 d)
          -∗ wp frame (wpE (defs₀ (F := Ideal)) Variants.none c none) E (κ (BitVec.ofNat 32 (i 1).val)) K))
      ⊢ wp frame (wpE (defs₀ (F := Ideal)) Variants.none c none) E (q2.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (iota .tc S256x128 32 [1] iota_S256x128_d1_w32) 64#32 k0_pay328 k0_pay329 (Scalar.cmpi .sgt 64#32 0#32))
          (fun x => wp frame (wpE (defs₀ (F := Ideal)) Variants.none c none) E (r2 arg10 harg10 x.2.1 x.2.2.1 x.2.2.2.1 x.2.2.2.2 (κ x.1)) K) := by
  have h := (tilesRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 w d).2 y E κ K
  rw [tiles_y] at h
  exact h

/-- The last stretch: the quantisation, where it is due. -/
theorem quant_spec (fn : Vec Ideal S112x256 .f32) (qv qv' : Vec Ideal S1x512x256 .fp8e4m3) (sv sv' : Vec Ideal S1x8x256 .f32)
    (h : cond0_2 i → ∃ T : Fin 14, (i 1).val = T.val ∧ qv' = qBlk T x5 x6 x7 fn ∧ sv' = rBlk T x5 x6 x7 fn) (h' : ¬cond0_2 i → qv' = qv ∧ sv' = sv)
    (E : Set ℕ) (K : PUnit → sProp 𝕄) :
    iprop(held c arg7 harg7 x5 ∗ held c arg8 harg8 x6 ∗ held c arg9 harg9 x7 ∗ held c arg11 harg11 qv ∗ held c arg12 harg12 sv ∗ held c arg17 harg17 fn
        ∗ (iprop(held c arg7 harg7 x5 ∗ held c arg8 harg8 x6 ∗ held c arg9 harg9 x7 ∗ held c arg11 harg11 qv' ∗ held c arg12 harg12 sv' ∗ held c arg17 harg17 fn) -∗ K ⟨⟩))
      ⊢ wp frame (wpE (defs₀ (F := Ideal)) Variants.none c none) E (r2.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val)) K := by
  by_cases hc : cond0_2 i
  · obtain ⟨T, hT, rfl, rfl⟩ := h hc
    have h := (quantRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x5 x6 x7 fn).2.2 qv sv E K
    rw [quant_q c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc T hT, quant_r c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc T hT] at h
    exact h
  · obtain ⟨rfl, rfl⟩ := h' hc
    iintro ⟨H5, H6, H7, HQ, HS, HF, Hk⟩
    iapply quant_skip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc
    iapply Hk
    isplitl [H5]; · iexact H5
    isplitl [H6]; · iexact H6
    isplitl [H7]; · iexact H7
    isplitl [HQ]; · iexact HQ
    isplitl [HS]; · iexact HS
    iexact HF

set_option maxHeartbeats 1000000 in
/-- The whole body at one grid point. -/
theorem body_spec (w : Vec Ideal S7168x256 .bf16) (a : Vec Ideal S112x128 .f32) (cv : Vec Ideal S8x128 .f32) (d : Vec Ideal S256x128 .f32) (fn : Vec Ideal S112x256 .f32)
    (y : Vec Ideal S1x256x7168 .bf16) (qv qv' : Vec Ideal S1x512x256 .fp8e4m3) (sv sv' : Vec Ideal S1x8x256 .f32)
    (ha : ¬cond0_0 i → a = fun y => aOf x0 (y 0)) (hz : cond0_1 i → (i 1).val = 0)
    (hw : ¬cond0_1 i → w = wTab x5 x6 ∧ fn = fTab x4 (aOf x0) ∧ CarryAt x4 (aOf x0) (256 * (i 1).val) cv)
    (hq : cond0_2 i → ∃ T : Fin 14, (i 1).val = T.val ∧ qv' = qBlk T x5 x6 x7 (fTab x4 (aOf x0)) ∧ sv' = rBlk T x5 x6 x7 (fTab x4 (aOf x0))) (hq' : ¬cond0_2 i → qv' = qv ∧ sv' = sv)
    (E : Set ℕ) (K : PUnit → sProp 𝕄) :
    iprop(held c arg2 harg2 x0 ∗ held c arg3 harg3 x1 ∗ held c arg4 harg4 x2 ∗ held c arg5 harg5 x3 ∗ held c arg6 harg6 x4 ∗ held c arg7 harg7 x5 ∗ held c arg8 harg8 x6 ∗ held c arg9 harg9 x7
        ∗ held c arg10 harg10 y ∗ held c arg11 harg11 qv ∗ held c arg12 harg12 sv
        ∗ held c arg13 harg13 w ∗ held c arg14 harg14 a ∗ held c arg15 harg15 cv ∗ held c arg16 harg16 d ∗ held c arg17 harg17 fn
        ∗ (∀ (cv' : Vec Ideal S8x128 .f32) (d' : Vec Ideal S256x128 .f32), ⌜CarryAt x4 (aOf x0) (256 * ((i 1).val + 1)) cv'⌝ -∗
          iprop(held c arg2 harg2 x0 ∗ held c arg3 harg3 x1 ∗ held c arg4 harg4 x2 ∗ held c arg5 harg5 x3 ∗ held c arg6 harg6 x4 ∗ held c arg7 harg7 x5 ∗ held c arg8 harg8 x6 ∗ held c arg9 harg9 x7
            ∗ held c arg10 harg10 (yBlk x1 x2 x3 x4 x5 x6 (aOf x0) (256 * (i 1).val)) ∗ held c arg11 harg11 qv' ∗ held c arg12 harg12 sv'
            ∗ held c arg13 harg13 (wTab x5 x6) ∗ held c arg14 harg14 (fun y => aOf x0 (y 0)) ∗ held c arg15 harg15 cv' ∗ held c arg16 harg16 d' ∗ held c arg17 harg17 (fTab x4 (aOf x0))) -∗ K ⟨⟩))
      ⊢ wp frame (wpE (defs₀ (F := Ideal)) Variants.none c none) E (cc0_carry_correction i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨cv1, h1, h2, hcv⟩ : ∃ cv1 : Vec Ideal S8x128 .f32, (¬cond0_1 i → w = wTab x5 x6 ∧ fn = fTab x4 (aOf x0) ∧ cv1 = cv) ∧ (cond0_1 i → cv1 = fun _ => 0) ∧ CarryAt x4 (aOf x0) (256 * (i 1).val) cv1 := by
    by_cases hc : cond0_1 i
    · refine ⟨fun _ => 0, fun h => absurd hc h, fun _ => rfl, fun r h => ?_⟩
      rw [hz hc]
      rfl
    · exact ⟨cv, fun _ => ⟨(hw hc).1, (hw hc).2.1, rfl⟩, fun h => absurd h hc, (hw hc).2.2⟩
  obtain ⟨d', cv', hd, hcv', hs⟩ := sums_spec (R := Σ' (arg1 : BitVec 32) (v1894 : FVec Ideal S256x256 .f32) (v1904 : FVec Ideal S256x128 .f32) (v1914 : FVec Ideal S256x128 .f32), FVec Ideal S256x256 .f32) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 (aOf x0) cv1 hcv d
  rw [cc0_carry_correction_eq_skeleton, r1.eq]
  unfold r1
  rw [wp_bind, k0_part112_eq_skeleton, q1.eq]
  iintro ⟨H0, H1, H2, H3, H4, H5, H6, H7, HY, HQ, HS, HW, HA, HC, HD, HF, Hk⟩
  iapply q1_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x4 x5 x6 w a cv cv1 fn ha h1 h2
  isplitl [H0]; · iexact H0
  isplitl [H4]; · iexact H4
  isplitl [H5]; · iexact H5
  isplitl [H6]; · iexact H6
  isplitl [HW]; · iexact HW
  isplitl [HA]; · iexact HA
  isplitl [HC]; · iexact HC
  isplitl [HF]; · iexact HF
  iintro ⟨H0, H4, H5, H6, HW, HA, HC, HF⟩
  rw [q2.eq]
  iapply hs
  isplitl [H4]; · iexact H4
  isplitl [HA]; · iexact HA
  isplitl [HC]; · iexact HC
  isplitl [HD]; · iexact HD
  iintro ⟨H4, HA, HC, HD⟩
  iapply tiles_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 (wTab x5 x6) d' y E (r2.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K
  isplitl [H1]; · iexact H1
  isplitl [H2]; · iexact H2
  isplitl [H3]; · iexact H3
  isplitl [HY]; · iexact HY
  isplitl [HW]; · iexact HW
  isplitl [HD]; · iexact HD
  iintro ⟨H1, H2, H3, HY, HW, HD⟩
  rw [yTile_of x4 x5 x6 (aOf x0) x1 x2 x3 _ d' hd]
  iapply quant_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x5 x6 x7 (fTab x4 (aOf x0)) qv qv' sv sv' hq hq'
  isplitl [H5]; · iexact H5
  isplitl [H6]; · iexact H6
  isplitl [H7]; · iexact H7
  isplitl [HQ]; · iexact HQ
  isplitl [HS]; · iexact HS
  isplitl [HF]; · iexact HF
  iintro ⟨H5, H6, H7, HQ, HS, HF⟩
  iapply Hk $$ %cv' %d' %hcv'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HY]; · iexact HY
  isplitl [HQ]; · iexact HQ
  isplitl [HS]; · iexact HS
  isplitl [HW]; · iexact HW
  isplitl [HA]; · iexact HA
  isplitl [HC]; · iexact HC
  isplitl [HD]; · iexact HD
  iexact HF

end Cert.KernelIdeal.Hand

end
-- ==== Proof.Region.lean ====
/- The idealized kernel's run over its whole grid, at `Ideal`, with its three outputs named: `y` tile by tile, and the
   quantised state block by block, the two points of a batch past the last block leaving the state's windows as they found them. -/
module

public import proofs.«01_k».proof.Proof.PointRun
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The blocks a point reads, and what it leaves -/

abbrev X0 (c : Dev nD) (t : Fin cfg0.N) : Vec Ideal S1x112 .f32 := iblk m c 0 t
abbrev X1 (c : Dev nD) (t : Fin cfg0.N) : Vec Ideal S1x256x7168 .bf16 := iblk m c 1 t
abbrev X2 (c : Dev nD) (t : Fin cfg0.N) : Vec Ideal S1x2048x128 .bf16 := iblk m c 2 t
abbrev X3 (c : Dev nD) (t : Fin cfg0.N) : Vec Ideal S1x2048x128 .bf16 := iblk m c 3 t
abbrev X4 (c : Dev nD) (t : Fin cfg0.N) : Vec Ideal S1x112x4096 .f32 := iblk m c 4 t
abbrev X5 (c : Dev nD) (t : Fin cfg0.N) : Vec Ideal S1x7168x256 .fp8e4m3 := iblk m c 5 t
abbrev X6 (c : Dev nD) (t : Fin cfg0.N) : Vec Ideal S1x112x256 .f32 := iblk m c 6 t
abbrev X7 (c : Dev nD) (t : Fin cfg0.N) : Vec Ideal S1x8x64x256 .f32 := iblk m c 7 t

theorem lt96 (t : Fin cfg0.N) : t.val < 96 := lt_of_lt_of_eq t.isLt N_0

theorem coord1 (t : Fin cfg0.N) : (grid0.coords t 1).val = t.val % 16 := by
  have h : (grid0.coords t 1).val = t.val / 1 % 16 := Pipeline.Grid.coords_val t 1 (by decide) rfl
  rw [h, Nat.div_one]

/-- The point whose head block the state's windows hold at `t`. -/
def tq (t : Fin cfg0.N) : Fin cfg0.N := ⟨16 * (t.val / 16) + min (t.val % 16) 13, by have := lt96 t; exact lt_of_lt_of_eq (by omega) (show 96 = cfg0.N from N_0.symm)⟩

/-- The number of that head block. -/
def bq (t : Fin cfg0.N) : Fin 14 := ⟨min (t.val % 16) 13, by omega⟩

/-- A point's tile of `y`. -/
def Y8 (c : Dev nD) (t : Fin cfg0.N) : Vec Ideal S1x256x7168 .bf16 :=
  yBlk (X1 m c t) (X2 m c t) (X3 m c t) (X4 m c t) (X5 m c t) (X6 m c t) (aOf (X0 m c t)) (256 * (t.val % 16))

/-- The state's codes of the head block a point holds. -/
def Q9 (c : Dev nD) (t : Fin cfg0.N) : Vec Ideal S1x512x256 .fp8e4m3 :=
  qBlk (bq t) (X5 m c (tq t)) (X6 m c (tq t)) (X7 m c (tq t)) (fTab (X4 m c (tq t)) (aOf (X0 m c (tq t))))

/-- The state's scales of the head block a point holds. -/
def R10 (c : Dev nD) (t : Fin cfg0.N) : Vec Ideal S1x8x256 .f32 :=
  rBlk (bq t) (X5 m c (tq t)) (X6 m c (tq t)) (X7 m c (tq t)) (fTab (X4 m c (tq t)) (aOf (X0 m c (tq t))))

theorem tq_of_le (t : Fin cfg0.N) (h : t.val % 16 ≤ 13) : tq t = t := by
  apply Fin.ext; show 16 * (t.val / 16) + min (t.val % 16) 13 = t.val; omega

/-! ## The blocks that do not move within a batch -/

theorem index0 : ∀ t : Fin cfg0.N, win0_0.index t = ![0, 0] := (by decide +kernel : ∀ t : Fin grid0.N, _)
theorem index4 : ∀ t : Fin cfg0.N, win0_4.index t = ![t.val / 16, 0, 0] := (by decide +kernel : ∀ t : Fin grid0.N, _)
theorem index5 : ∀ t : Fin cfg0.N, win0_5.index t = ![t.val / 16, 0, 0] := (by decide +kernel : ∀ t : Fin grid0.N, _)
theorem index6 : ∀ t : Fin cfg0.N, win0_6.index t = ![t.val / 16, 0, 0] := (by decide +kernel : ∀ t : Fin grid0.N, _)

theorem X0_eq (c : Dev nD) (t u : Fin cfg0.N) : X0 m c t = X0 m c u := by
  funext y; blk_ext [iblk, index0 t, index0 u]

theorem X4_eq (c : Dev nD) (t u : Fin cfg0.N) (h : t.val / 16 = u.val / 16) : X4 m c t = X4 m c u := by
  funext y; blk_ext [iblk, index4 t, index4 u]

theorem X5_eq (c : Dev nD) (t u : Fin cfg0.N) (h : t.val / 16 = u.val / 16) : X5 m c t = X5 m c u := by
  funext y; blk_ext [iblk, index5 t, index5 u]

theorem X6_eq (c : Dev nD) (t u : Fin cfg0.N) (h : t.val / 16 = u.val / 16) : X6 m c t = X6 m c u := by
  funext y; blk_ext [iblk, index6 t, index6 u]

/-! ## The invariant -/

/-- The scratch after point `t`: the batch's dequantised table, the negated exponentials, the carries of the running sums,
    and the decays of the whole sequence. -/
def scratchAt (c : Dev nD) (t : Fin cfg0.N) : sProp 𝕄 :=
  iprop(iprop(owns (c : Thread nD τ) scM0_0 fullShare (wTab (X5 m c t) (X6 m c t)) ∗ owns (c : Thread nD τ) scM0_1 fullShare (fun y => aOf (X0 m c t) (y 0) : Vec Ideal S112x128 .f32)
    ∗ (∃ cv : Vec Ideal S8x128 .f32, ⌜CarryAt (X4 m c t) (aOf (X0 m c t)) (256 * (t.val % 16 + 1)) cv⌝ ∗ owns (c : Thread nD τ) scM0_2 fullShare cv)
    ∗ (∃ d, owns (c : Thread nD τ) scM0_3 fullShare d) ∗ owns (c : Thread nD τ) scM0_4 fullShare (fTab (X4 m c t) (aOf (X0 m c t)))) ∗ (∃ r, prngReg c r))

def PhiS (c : Dev nD) : (n : ℕ) → n ≤ cfg0.N → sProp 𝕄
  | 0, _ => Pipeline.ΦA spec0 c
  | n + 1, hn => scratchAt m c ⟨n, hn⟩

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = scratchAt m c ⟨n - 1, by omega⟩ := by
  cases n with
  | zero => exact absurd rfl hz
  | succ n => rfl

/-- The proof data: each input's buffer at its block, each output's at what the point leaves in it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Y8 m c t
    | ⟨9, _⟩ => Q9 m c t
    | ⟨10, _⟩ => R10 m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = Y8 m c t := by dsimp only [dats]
theorem after0_9 (c : Dev nD) (t : Fin cfg0.N) : (dats m 0 c).after 9 t = Q9 m c t := by dsimp only [dats]
theorem after0_10 (c : Dev nD) (t : Fin cfg0.N) : (dats m 0 c).after 10 t = R10 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What a point finds in the scratch: after the first point of a batch, what the batch has put there. -/
theorem scratch_found (c : Dev nD) (t : Fin cfg0.N) :
    (dats m 0 c).Φ t.castSucc ⊢ (iprop(∃ (w : Vec Ideal S7168x256 .bf16) (a : Vec Ideal S112x128 .f32) (cv : Vec Ideal S8x128 .f32) (d : Vec Ideal S256x128 .f32) (fn : Vec Ideal S112x256 .f32),
      ⌜(t.val % 96 ≠ 0 → a = fun y => aOf (X0 m c t) (y 0)) ∧ (t.val % 16 ≠ 0 → w = wTab (X5 m c t) (X6 m c t) ∧ fn = fTab (X4 m c t) (aOf (X0 m c t))
        ∧ CarryAt (X4 m c t) (aOf (X0 m c t)) (256 * (t.val % 16)) cv)⌝
      ∗ owns (c : Thread nD τ) scM0_0 fullShare w ∗ owns (c : Thread nD τ) scM0_1 fullShare a ∗ owns (c : Thread nD τ) scM0_2 fullShare cv
      ∗ owns (c : Thread nD τ) scM0_3 fullShare d ∗ owns (c : Thread nD τ) scM0_4 fullShare fn ∗ (∃ r, prngReg c r)) : sProp 𝕄) := by
  have hN := lt96 t
  rw [PhiS_castSucc]
  by_cases hz : t.val = 0
  · rw [PhiS_zero m c _ _ hz, PhiA0_eq]
    iintro ⟨⟨⟨%w, H0⟩, ⟨%a, H1⟩, ⟨%cv, H2⟩, ⟨%d, H3⟩, ⟨%fn, H4⟩⟩, Hg⟩
    iexists w, a, cv, d, fn
    isplitr
    · ipureintro
      exact ⟨fun h => absurd (by omega) h, fun h => absurd (by omega) h⟩
    isplitl [H0]; · iexact H0
    isplitl [H1]; · iexact H1
    isplitl [H2]; · iexact H2
    isplitl [H3]; · iexact H3
    isplitl [H4]; · iexact H4
    iexact Hg
  · rw [PhiS_pos m c _ _ hz]
    unfold scratchAt
    iintro ⟨⟨H0, H1, ⟨%cv, %hcv, H2⟩, ⟨%d, H3⟩, H4⟩, Hg⟩
    iexists _, _, cv, d, _
    isplitr
    · ipureintro
      refine ⟨fun _ => by rw [X0_eq m c t ⟨t.val - 1, by omega⟩], fun h => ?_⟩
      have hd : t.val / 16 = (⟨t.val - 1, by omega⟩ : Fin cfg0.N).val / 16 := by show t.val / 16 = (t.val - 1) / 16; omega
      rw [X0_eq m c t ⟨t.val - 1, by omega⟩, X4_eq m c t ⟨t.val - 1, by omega⟩ hd, X5_eq m c t ⟨t.val - 1, by omega⟩ hd, X6_eq m c t ⟨t.val - 1, by omega⟩ hd]
      refine ⟨rfl, rfl, ?_⟩
      have e : t.val % 16 = (t.val - 1) % 16 + 1 := by omega
      rw [e]
      exact hcv
    isplitl [H0]; · iexact H0
    isplitl [H1]; · iexact H1
    isplitl [H2]; · iexact H2
    isplitl [H3]; · iexact H3
    isplitl [H4]; · iexact H4
    iexact Hg

/-! ## The two points of a batch that leave the state's windows alone -/

theorem idle0_9 : ∀ t : Fin cfg0.N, cfg0.idle 9 (grid0.coords t) = decide (13 < t.val % 16) := (by decide +kernel : ∀ t : Fin grid0.N, cfg0.idle 9 (grid0.coords t) = decide (13 < t.val % 16))
theorem flushes0_9 : ∀ t : Fin cfg0.N, (cfg0.win 9).flush t = decide (t.val % 16 ≤ 12 ∨ t.val % 16 = 15) := (by decide +kernel : ∀ t : Fin grid0.N, (cfg0.win 9).flush t = decide (t.val % 16 ≤ 12 ∨ t.val % 16 = 15))

theorem Q9_eq (c : Dev nD) (t u : Fin cfg0.N) (h : t.val / 16 = u.val / 16) (h' : min (t.val % 16) 13 = min (u.val % 16) 13) : Q9 m c t = Q9 m c u := by
  unfold Q9
  rw [show tq t = tq u from Fin.ext (by show 16 * (t.val / 16) + min (t.val % 16) 13 = 16 * (u.val / 16) + min (u.val % 16) 13; omega), show bq t = bq u from Fin.ext h']

/-- A point past the last head block finds that block in the window. -/
theorem before0_9 (c : Dev nD) (t : Fin cfg0.N) (h : 13 < t.val % 16) (d) : (dats m 0 c).before 9 t d = Q9 m c t := by
  have hN := lt96 t
  have step : ∀ (u : Fin cfg0.N) (d), u.val % 16 = 14 → (dats m 0 c).before 9 u d = Q9 m c u := by
    intro u d hu
    have hN := lt96 u
    rw [Dat.before_of_pos _ 9 u (by omega) ((cfg0.win 9).fetch_out rfl u), flushes0_9, decide_eq_false (by show ¬((u.val - 1) % 16 ≤ 12 ∨ (u.val - 1) % 16 = 15); omega), if_neg Bool.false_ne_true]
    unfold Dat.left
    rw [show cfg0.idle 9 (cfg0.grid.coords ⟨u.val - 1, Nat.lt_of_le_of_lt (Nat.sub_le _ _) u.isLt⟩) = false from (idle0_9 _).trans (decide_eq_false (by show ¬13 < (u.val - 1) % 16; omega))]
    show (dats m 0 c).after 9 ⟨u.val - 1, _⟩ = _
    rw [after0_9]
    exact Q9_eq m c _ u (by show (u.val - 1) / 16 = u.val / 16; omega) (by show min ((u.val - 1) % 16) 13 = min (u.val % 16) 13; omega)
  rcases (by omega : t.val % 16 = 14 ∨ t.val % 16 = 15) with h1 | h1
  · exact step t d h1
  · rw [Dat.before_of_pos _ 9 t (by omega) ((cfg0.win 9).fetch_out rfl t), flushes0_9, decide_eq_false (by show ¬((t.val - 1) % 16 ≤ 12 ∨ (t.val - 1) % 16 = 15); omega), if_neg Bool.false_ne_true]
    unfold Dat.left
    rw [show cfg0.idle 9 (cfg0.grid.coords ⟨t.val - 1, Nat.lt_of_le_of_lt (Nat.sub_le _ _) t.isLt⟩) = true from (idle0_9 _).trans (decide_eq_true (by show 13 < (t.val - 1) % 16; omega))]
    dsimp only
    rw [step _ d (by show (t.val - 1) % 16 = 14; omega)]
    exact Q9_eq m c _ t (by show (t.val - 1) / 16 = t.val / 16; omega) (by show min ((t.val - 1) % 16) 13 = min (t.val % 16) 13; omega)

/-- The window at what a point leaves, in the shape the point returns it. -/
theorem leaves0_9 (c : Dev nD) (t : Fin cfg0.N) : (owns (c : Thread nD τ) (ms0_9 t) fullShare (Q9 m c t) : sProp 𝕄) ⊢ (dats m 0 c).leavesExact 9 t := by
  have hN := lt96 t
  unfold Dat.leavesExact
  by_cases h : 13 < t.val % 16
  · rw [show cfg0.idle 9 (cfg0.grid.coords t) = true from (idle0_9 t).trans (decide_eq_true h)]
    by_cases h' : t.val % 16 = 15
    · rw [flushes0_9, decide_eq_true (.inr h')]
      dsimp only
      rw [after0_9]
    · rw [flushes0_9, decide_eq_false (by omega)]
      dsimp only
      iintro H
      iexists (Q9 m c t)
      rw [before0_9 m c t h]
      iexact H
  · rw [show cfg0.idle 9 (cfg0.grid.coords t) = false from (idle0_9 t).trans (decide_eq_false h)]
    dsimp only
    rw [after0_9]

theorem idle0_10 : ∀ t : Fin cfg0.N, cfg0.idle 10 (grid0.coords t) = decide (13 < t.val % 16) := (by decide +kernel : ∀ t : Fin grid0.N, cfg0.idle 10 (grid0.coords t) = decide (13 < t.val % 16))
theorem flushes0_10 : ∀ t : Fin cfg0.N, (cfg0.win 10).flush t = decide (t.val % 16 ≤ 12 ∨ t.val % 16 = 15) := (by decide +kernel : ∀ t : Fin grid0.N, (cfg0.win 10).flush t = decide (t.val % 16 ≤ 12 ∨ t.val % 16 = 15))

theorem R10_eq (c : Dev nD) (t u : Fin cfg0.N) (h : t.val / 16 = u.val / 16) (h' : min (t.val % 16) 13 = min (u.val % 16) 13) : R10 m c t = R10 m c u := by
  unfold R10
  rw [show tq t = tq u from Fin.ext (by show 16 * (t.val / 16) + min (t.val % 16) 13 = 16 * (u.val / 16) + min (u.val % 16) 13; omega), show bq t = bq u from Fin.ext h']

/-- A point past the last head block finds that block in the window. -/
theorem before0_10 (c : Dev nD) (t : Fin cfg0.N) (h : 13 < t.val % 16) (d) : (dats m 0 c).before 10 t d = R10 m c t := by
  have hN := lt96 t
  have step : ∀ (u : Fin cfg0.N) (d), u.val % 16 = 14 → (dats m 0 c).before 10 u d = R10 m c u := by
    intro u d hu
    have hN := lt96 u
    rw [Dat.before_of_pos _ 10 u (by omega) ((cfg0.win 10).fetch_out rfl u), flushes0_10, decide_eq_false (by show ¬((u.val - 1) % 16 ≤ 12 ∨ (u.val - 1) % 16 = 15); omega), if_neg Bool.false_ne_true]
    unfold Dat.left
    rw [show cfg0.idle 10 (cfg0.grid.coords ⟨u.val - 1, Nat.lt_of_le_of_lt (Nat.sub_le _ _) u.isLt⟩) = false from (idle0_10 _).trans (decide_eq_false (by show ¬13 < (u.val - 1) % 16; omega))]
    show (dats m 0 c).after 10 ⟨u.val - 1, _⟩ = _
    rw [after0_10]
    exact R10_eq m c _ u (by show (u.val - 1) / 16 = u.val / 16; omega) (by show min ((u.val - 1) % 16) 13 = min (u.val % 16) 13; omega)
  rcases (by omega : t.val % 16 = 14 ∨ t.val % 16 = 15) with h1 | h1
  · exact step t d h1
  · rw [Dat.before_of_pos _ 10 t (by omega) ((cfg0.win 10).fetch_out rfl t), flushes0_10, decide_eq_false (by show ¬((t.val - 1) % 16 ≤ 12 ∨ (t.val - 1) % 16 = 15); omega), if_neg Bool.false_ne_true]
    unfold Dat.left
    rw [show cfg0.idle 10 (cfg0.grid.coords ⟨t.val - 1, Nat.lt_of_le_of_lt (Nat.sub_le _ _) t.isLt⟩) = true from (idle0_10 _).trans (decide_eq_true (by show 13 < (t.val - 1) % 16; omega))]
    dsimp only
    rw [step _ d (by show (t.val - 1) % 16 = 14; omega)]
    exact R10_eq m c _ t (by show (t.val - 1) / 16 = t.val / 16; omega) (by show min ((t.val - 1) % 16) 13 = min (t.val % 16) 13; omega)

/-- The window at what a point leaves, in the shape the point returns it. -/
theorem leaves0_10 (c : Dev nD) (t : Fin cfg0.N) : (owns (c : Thread nD τ) (ms0_10 t) fullShare (R10 m c t) : sProp 𝕄) ⊢ (dats m 0 c).leavesExact 10 t := by
  have hN := lt96 t
  unfold Dat.leavesExact
  by_cases h : 13 < t.val % 16
  · rw [show cfg0.idle 10 (cfg0.grid.coords t) = true from (idle0_10 t).trans (decide_eq_true h)]
    by_cases h' : t.val % 16 = 15
    · rw [flushes0_10, decide_eq_true (.inr h')]
      dsimp only
      rw [after0_10]
    · rw [flushes0_10, decide_eq_false (by omega)]
      dsimp only
      iintro H
      iexists (R10 m c t)
      rw [before0_10 m c t h]
      iexact H
  · rw [show cfg0.idle 10 (cfg0.grid.coords t) = false from (idle0_10 t).trans (decide_eq_false h)]
    dsimp only
    rw [after0_10]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- A buffer owned at named contents is held at them, and back. -/
theorem held_of_owns (c : Dev nD) {s : Shape} {e : EltTy} (M : Memref sig .tc .vmem s e) (h : M.IsWhole) (x : s.Idx → Elt Ideal e) :
    (owns (c : Thread nD τ) M fullShare x : sProp 𝕄) ⊢ held c M h x := by
  unfold owns
  iintro ⟨%f, %hf, H⟩
  obtain rfl := h.eq_unread hf
  iexact H

theorem owns_of_held (c : Dev nD) {s : Shape} {e : EltTy} (M : Memref sig .tc .vmem s e) (h : M.IsWhole) (x : s.Idx → Elt Ideal e) :
    (held c M h x : sProp 𝕄) ⊢ owns (c : Thread nD τ) M fullShare x := by
  unfold owns
  iintro H
  iexists _
  isplitr
  · ipureintro; exact h.read_unread _
  iexact H

/-- The tile of `y` handed back is `Y8`. -/
theorem y_back (c : Dev nD) (t : Fin cfg0.N) :
    (held c (ms0_8 t) (hs0_8 t) (yBlk (X1 m c t) (X2 m c t) (X3 m c t) (X4 m c t) (X5 m c t) (X6 m c t) (aOf (X0 m c t)) (256 * (grid0.coords t 1).val)) : sProp 𝕄)
      ⊢ owns (c : Thread nD τ) (ms0_8 t) fullShare (Y8 m c t) := by
  rw [coord1]
  exact owns_of_held c (ms0_8 t) (hs0_8 t) (Y8 m c t)

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  have hN := lt96 t
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = scratchAt m c t from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from rfl, after0_8]
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave Hf := (scratch_found m c t) $$ Hf
  icases Hf with ⟨%w, %a, %cv, %d, %fn, %hs, HS0, HS1, HS2, HS3, HS4, Hg⟩
  ihave H0 := (held_of_owns c (ms0_0 t) (hs0_0 t) (X0 m c t)) $$ H0
  ihave H1 := (held_of_owns c (ms0_1 t) (hs0_1 t) (X1 m c t)) $$ H1
  ihave H2 := (held_of_owns c (ms0_2 t) (hs0_2 t) (X2 m c t)) $$ H2
  ihave H3 := (held_of_owns c (ms0_3 t) (hs0_3 t) (X3 m c t)) $$ H3
  ihave H4 := (held_of_owns c (ms0_4 t) (hs0_4 t) (X4 m c t)) $$ H4
  ihave H5 := (held_of_owns c (ms0_5 t) (hs0_5 t) (X5 m c t)) $$ H5
  ihave H6 := (held_of_owns c (ms0_6 t) (hs0_6 t) (X6 m c t)) $$ H6
  ihave H7 := (held_of_owns c (ms0_7 t) (hs0_7 t) (X7 m c t)) $$ H7
  ihave H8 := (held_of_owns c (ms0_8 t) (hs0_8 t) _) $$ H8
  ihave H9 := (held_of_owns c (ms0_9 t) (hs0_9 t) _) $$ H9
  ihave H10 := (held_of_owns c (ms0_10 t) (hs0_10 t) _) $$ H10
  ihave HS0 := (held_of_owns c scM0_0 (Memref.isWhole_whole _) w) $$ HS0
  ihave HS1 := (held_of_owns c scM0_1 (Memref.isWhole_whole _) a) $$ HS1
  ihave HS2 := (held_of_owns c scM0_2 (Memref.isWhole_whole _) cv) $$ HS2
  ihave HS3 := (held_of_owns c scM0_3 (Memref.isWhole_whole _) d) $$ HS3
  ihave HS4 := (held_of_owns c scM0_4 (Memref.isWhole_whole _) fn) $$ HS4
  iapply body_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (X0 m c t) (X4 m c t) (X5 m c t) (X6 m c t) (X1 m c t) (X2 m c t) (X3 m c t) (X7 m c t) w a cv d fn _ _ (Q9 m c t) _ (R10 m c t)
    (fun h => hs.1 fun h' => h ((hcond0_0 t).mpr h')) (fun h => (coord1 t).trans ((hcond0_1 t).mp h))
    (fun h => by rw [coord1]; exact hs.2 fun h' => h ((hcond0_1 t).mpr h'))
    (fun h => ⟨bq t, by have h' := (hcond0_2 t).mp h; rw [coord1]; show _ = min (t.val % 16) 13; omega,
      by unfold Q9; rw [tq_of_le t ((hcond0_2 t).mp h)], by unfold R10; rw [tq_of_le t ((hcond0_2 t).mp h)]⟩)
    (fun h => ⟨(before0_9 m c t (by have h' := mt (hcond0_2 t).mpr h; omega) _).symm, (before0_10 m c t (by have h' := mt (hcond0_2 t).mpr h; omega) _).symm⟩)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro %cv' %d' %hcv ⟨H0, H1, H2, H3, H4, H5, H6, H7, H8, H9, H10, HS0, HS1, HS2, HS3, HS4⟩
  ihave H0 := (owns_of_held c (ms0_0 t) (hs0_0 t) (X0 m c t)) $$ H0
  ihave H1 := (owns_of_held c (ms0_1 t) (hs0_1 t) (X1 m c t)) $$ H1
  ihave H2 := (owns_of_held c (ms0_2 t) (hs0_2 t) (X2 m c t)) $$ H2
  ihave H3 := (owns_of_held c (ms0_3 t) (hs0_3 t) (X3 m c t)) $$ H3
  ihave H4 := (owns_of_held c (ms0_4 t) (hs0_4 t) (X4 m c t)) $$ H4
  ihave H5 := (owns_of_held c (ms0_5 t) (hs0_5 t) (X5 m c t)) $$ H5
  ihave H6 := (owns_of_held c (ms0_6 t) (hs0_6 t) (X6 m c t)) $$ H6
  ihave H7 := (owns_of_held c (ms0_7 t) (hs0_7 t) (X7 m c t)) $$ H7
  ihave H8 := (y_back m c t) $$ H8
  ihave H9 := (owns_of_held c (ms0_9 t) (hs0_9 t) (Q9 m c t)) $$ H9
  ihave H10 := (owns_of_held c (ms0_10 t) (hs0_10 t) (R10 m c t)) $$ H10
  ihave HS0 := (owns_of_held c scM0_0 (Memref.isWhole_whole _) (wTab (X5 m c t) (X6 m c t))) $$ HS0
  ihave HS1 := (owns_of_held c scM0_1 (Memref.isWhole_whole _) (fun y => aOf (X0 m c t) (y 0) : Vec Ideal S112x128 .f32)) $$ HS1
  ihave HS2 := (owns_of_held c scM0_2 (Memref.isWhole_whole _) cv') $$ HS2
  ihave HS3 := (owns_of_held c scM0_3 (Memref.isWhole_whole _) d') $$ HS3
  ihave HS4 := (owns_of_held c scM0_4 (Memref.isWhole_whole _) (fTab (X4 m c t) (aOf (X0 m c t)))) $$ HS4
  ihave H9 := (leaves0_9 m c t) $$ H9
  ihave H10 := (leaves0_10 m c t) $$ H10
  isplitl [HS0 HS1 HS2 HS3 HS4 Hg]
  · unfold scratchAt
    isplitl [HS0 HS1 HS2 HS3 HS4]
    · isplitl [HS0]; · iexact HS0
      isplitl [HS1]; · iexact HS1
      isplitl [HS2]
      · iexists cv'
        isplitr
        · ipureintro; rw [coord1] at hcv; exact hcv
        iexact HS2
      isplitl [HS3]; · iexists d'; iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiS_pos m c _ _ (by rw [show cfg0.N = 96 from N_0]; decide), PhiA0_eq]
  unfold scratchAt
  iintro ⟨⟨H0, H1, ⟨%cv, -, H2⟩, H3, H4⟩, Hg⟩
  isplitl [H0 H1 H2 H3 H4]
  · isplitl [H0]; · iexists _; iexact H0
    isplitl [H1]; · iexists _; iexact H1
    isplitl [H2]; · iexists _; iexact H2
    isplitl [H3]; · iexact H3
    iexists _; iexact H4
  iexact Hg

/-! ## The run and the frame -/

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution ends with each array at what the proof data says. -/
theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame of the idealized kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.Spec.lean ====
/- What the three results hold, as functions of the seven arguments. -/
module

public import proofs.«01_k».proof.Proof.QuantVal
public import Idealize.ShloMosaic.Lib.Pointwise

@[expose] public section

noncomputable section

namespace Cert.Spec

open Idealize.ShloMosaic Idealize.ShloMosaic.Pointwise
open Cert.KernelIdeal Cert.KernelIdeal.Hand

variable (y : Vec Ideal S6x4096x7168 .bf16) (c : Vec Ideal S6x4096x8x256 .bf16) (dt : Vec Ideal S6x4096x112 .f32) (al : Vec Ideal S112 .f32)
  (q : Vec Ideal S6x112x64x256 .fp8e4m3) (s : Vec Ideal S6x112x256 .f32) (l : Vec Ideal S6x112x64x256 .f32)

/-- A head's rate. -/
def rate (h : Fin 112) : EReal := 0 - Ideal.exp (al (ix1 h))

/-- Step `i` of a head times its rate. -/
def step (b : Fin 6) (h : Fin 112) (i : ℕ) : EReal := if hi : i < 4096 then dt (ix3 b ⟨i, hi⟩ h) * rate al h else 0

/-- The decay over the first `n` tokens. -/
def decay (b : Fin 6) (h : Fin 112) (n : ℕ) : EReal := Ideal.exp (∑ i ∈ Finset.range n, step dt al b h i)

/-- The carried state, dequantised. -/
def carried (b : Fin 6) (h : Fin 112) (p : Fin 64) (k : Fin 256) : EReal := q (ix4 b h p k) * s (ix3 b h k)

/-- `y` at token `t`, head `h`, row `p`: the local part, and what the carried state adds. -/
def yAt (b : Fin 6) (t : Fin 4096) (h : Fin 112) (p : Fin 64) : EReal :=
  y (ix3 b t ⟨64 * h.val + p.val, by omega⟩) + (∑ k : Fin 256, c (ix4 b t ⟨h.val / 14, by omega⟩ k) * carried q s b h p k) * decay dt al b h (t.val + 1)

/-- The new state. -/
def stAt (b : Fin 6) (h : Fin 112) (p : Fin 64) (k : Fin 256) : EReal := decay dt al b h 4096 * carried q s b h p k + l (ix4 b h p k)

/-- The largest magnitude of a column of the new state. -/
def mxAt (b : Fin 6) (h : Fin 112) (k : Fin 256) : EReal :=
  Finset.fold max (Ideal.ofBits .f32 0xFF800000#32) (fun p : Fin 64 => FloatOps.absf (F := Ideal) (φ := .f32) (stAt dt al q s l b h p k)) Finset.univ

theorem d64 (i : Fin 7168) : i.val / 64 < 112 := by omega

/-- The first result. -/
def ySpec : Vec Ideal S6x4096x7168 .bf16 := fun i => yAt y c dt al q s (i 0) (i 1) ⟨(i 2).val / 64, d64 (i 2)⟩ ⟨(i 2).val % 64, Nat.mod_lt _ (by omega)⟩

/-- The second. -/
def qSpec : Vec Ideal S6x7168x256 .fp8e4m3 := fun i => codeOf (mxAt dt al q s l (i 0) ⟨(i 1).val / 64, d64 (i 1)⟩ (i 2)) (stAt dt al q s l (i 0) ⟨(i 1).val / 64, d64 (i 1)⟩ ⟨(i 1).val % 64, Nat.mod_lt _ (by omega)⟩ (i 2))

/-- The third. -/
def rSpec : Vec Ideal S6x112x256 .f32 := fun i => scaleOf (mxAt dt al q s l (i 0) (i 1) (i 2))

end Cert.Spec
-- ==== Proof.KernelFinal.lean ====
/- The three result arrays after the idealized kernel's run, as functions of the arguments. -/
module

public import proofs.«01_k».proof.Proof.Region
public import proofs.«01_k».proof.Proof.Spec

@[expose] public section

set_option maxRecDepth 16384

noncomputable section

namespace Cert.KernelIdeal.Hand

open Idealize.ShloMosaic Idealize.ShloMosaic.TcCoe Idealize.ShloMosaic.Tactic Idealize.ShloMosaic.Pointwise
open Idealize.SL.Sem
open Idealize.ShloMosaic.Pipeline (Dat)
open Cert.KernelIdeal Cert.KernelIdeal.Gen

variable (m : (ℓ : Loc nD τ sig) → Buf (Elt Ideal) ℓ) (c : Dev nD)

abbrev A0 : Vec Ideal S6x4096x7168 .bf16 := m ((c : Thread nD τ).loc main_arg0)
abbrev A1 : Vec Ideal S6x4096x8x256 .bf16 := m ((c : Thread nD τ).loc main_arg1)
abbrev A2 : Vec Ideal S6x4096x112 .f32 := m ((c : Thread nD τ).loc main_arg2)
abbrev A3 : Vec Ideal S112 .f32 := m ((c : Thread nD τ).loc main_arg3)
abbrev A4 : Vec Ideal S6x112x64x256 .fp8e4m3 := m ((c : Thread nD τ).loc main_arg4)
abbrev A5 : Vec Ideal S6x112x256 .f32 := m ((c : Thread nD τ).loc main_arg5)
abbrev A6 : Vec Ideal S6x112x64x256 .f32 := m ((c : Thread nD τ).loc main_arg6)

theorem index1 : ∀ t : Fin cfg0.N, win0_1.index t = ![t.val / 16, t.val % 16, 0] := (by decide +kernel : ∀ t : Fin grid0.N, _)
theorem index2 : ∀ t : Fin cfg0.N, win0_2.index t = ![t.val / 16, t.val % 16, 0] := (by decide +kernel : ∀ t : Fin grid0.N, _)
theorem index3 : ∀ t : Fin cfg0.N, win0_3.index t = ![t.val / 16, t.val % 16, 1] := (by decide +kernel : ∀ t : Fin grid0.N, _)
theorem index7 : ∀ t : Fin cfg0.N, win0_7.index t = ![t.val / 16, min (t.val % 16) 13, 0, 0] := (by decide +kernel : ∀ t : Fin grid0.N, _)
theorem index8 : ∀ t : Fin cfg0.N, win0_8.index t = ![t.val / 16, t.val % 16, 0] := (by decide +kernel : ∀ t : Fin grid0.N, _)
theorem index9 : ∀ t : Fin cfg0.N, win0_9.index t = ![t.val / 16, min (t.val % 16) 13, 0] := (by decide +kernel : ∀ t : Fin grid0.N, _)
theorem index10 : ∀ t : Fin cfg0.N, win0_10.index t = ![t.val / 16, min (t.val % 16) 13, 0] := (by decide +kernel : ∀ t : Fin grid0.N, _)

/-- A point's batch. -/
def bt (t : Fin cfg0.N) : Fin 6 := ⟨t.val / 16, by have := lt96 t; omega⟩

/-! ## The blocks, read at an index -/

theorem read0 (t : Fin cfg0.N) (h : Fin 112) : X0 m c t (ix2 0 h) = A3 m c (ix1 h) := by
  blk_ext! [iblk, index0 t]

theorem read1 (t : Fin cfg0.N) (r : Fin 256) (d : Fin 7168) : X1 m c t (ix3 0 r d) = A0 m c (ix3 (bt t) ⟨256 * (t.val % 16) + r.val, by omega⟩ d) := by
  blk_ext! [iblk, bt, index1 t]

theorem read2 (t : Fin cfg0.N) (r : Fin 256) (q : Fin 8) (k : Fin 128) :
    X2 m c t (ix3 0 ⟨8 * r.val + q.val, by omega⟩ k) = A1 m c (ix4 (bt t) ⟨256 * (t.val % 16) + r.val, by omega⟩ q ⟨k.val, by omega⟩) := by
  have := lt96 t
  blk_ext! [iblk, bt, index2 t]

theorem read3 (t : Fin cfg0.N) (r : Fin 256) (q : Fin 8) (k : Fin 128) :
    X3 m c t (ix3 0 ⟨8 * r.val + q.val, by omega⟩ k) = A1 m c (ix4 (bt t) ⟨256 * (t.val % 16) + r.val, by omega⟩ q ⟨128 + k.val, by omega⟩) := by
  have := lt96 t
  blk_ext! [iblk, bt, index3 t]

theorem read4 (t : Fin cfg0.N) (h : Fin 112) (s : Fin 4096) : X4 m c t (ix3 0 h s) = A2 m c (ix3 (bt t) s h) := by
  blk_ext! [iblk, bt, index4 t]

theorem read5 (t : Fin cfg0.N) (d : Fin 7168) (k : Fin 256) : X5 m c t (ix3 0 d k) = A4 m c (ix4 (bt t) ⟨d.val / 64, by omega⟩ ⟨d.val % 64, by omega⟩ k) := by
  have := lt96 t
  blk_ext! [iblk, bt, index5 t]

theorem read6 (t : Fin cfg0.N) (h : Fin 112) (k : Fin 256) : X6 m c t (ix3 0 h k) = A5 m c (ix3 (bt t) h k) := by
  blk_ext! [iblk, bt, index6 t]

theorem read7 (t : Fin cfg0.N) (j : Fin 8) (p : Fin 64) (k : Fin 256) :
    X7 m c t (ix4 0 j p k) = A6 m c (ix4 (bt t) ⟨8 * min (t.val % 16) 13 + j.val, by omega⟩ p k) := by
  blk_ext! [iblk, bt, index7 t]

/-! ## The blocks' quantities, as the arguments' -/

theorem rate_eq (t : Fin cfg0.N) (h : Fin 112) : aOf (X0 m c t) h = Spec.rate (A3 m c) h := by
  unfold aOf Spec.rate
  rw [read0]

theorem step_eq (t : Fin cfg0.N) (h : Fin 112) (i : ℕ) : dA (X4 m c t) (aOf (X0 m c t)) h i = Spec.step (A2 m c) (A3 m c) (bt t) h i := by
  unfold dA Spec.step
  split
  · rw [read4, rate_eq]
  · rfl

theorem carried_eq (t : Fin cfg0.N) (h : Fin 112) (p : Fin 64) (k : Fin 256) (d : Fin 7168) (hd : d.val = 64 * h.val + p.val) :
    X5 m c t (ix3 0 d k) * X6 m c t (ix3 0 h k) = Spec.carried (A4 m c) (A5 m c) (bt t) h p k := by
  rw [read5, read6, show (⟨d.val / 64, by omega⟩ : Fin 112) = h from Fin.ext (by show d.val / 64 = h.val; omega), show (⟨d.val % 64, by omega⟩ : Fin 64) = p from Fin.ext (by show d.val % 64 = p.val; omega)]
  rfl

theorem cAt_eq (t : Fin cfg0.N) (r : Fin 256) (q : Fin 8) (k : Fin 256) :
    cAt (X2 m c t) (X3 m c t) r q k = A1 m c (ix4 (bt t) ⟨256 * (t.val % 16) + r.val, by omega⟩ q k) := by
  unfold cAt
  split
  · rename_i hk
    exact read2 m c t r q ⟨k.val, hk⟩
  · rename_i hk
    refine (read3 m c t r q ⟨k.val - 128, by omega⟩).trans (congrArg (fun z => A1 m c (ix4 _ _ _ z)) (Fin.ext ?_))
    show 128 + (k.val - 128) = k.val
    omega

theorem fTab_eq (t : Fin cfg0.N) (h : Fin 112) (k : Fin 256) : fTab (X4 m c t) (aOf (X0 m c t)) (ix2 h k) = Spec.decay (A2 m c) (A3 m c) (bt t) h 4096 := by
  unfold fTab Spec.decay
  exact congrArg _ (Finset.sum_congr rfl fun i _ => step_eq m c t h i)

theorem hAt_eq (t : Fin cfg0.N) (j : Fin 8) (h : Fin 112) (hh : h.val = 8 * min (t.val % 16) 13 + j.val) (p : Fin 64) (k : Fin 256) :
    hAt (X5 m c t) (X6 m c t) (X7 m c t) (fTab (X4 m c t) (aOf (X0 m c t))) h j p k = Spec.stAt (A2 m c) (A3 m c) (A4 m c) (A5 m c) (A6 m c) (bt t) h p k := by
  unfold hAt Spec.stAt
  rw [fTab_eq, carried_eq m c t h p k _ rfl, read7]
  refine congrArg _ (congrArg (fun z => A6 m c (ix4 _ z _ _)) (Fin.ext hh.symm))

theorem mAt_eq (t : Fin cfg0.N) (j : Fin 8) (h : Fin 112) (hh : h.val = 8 * min (t.val % 16) 13 + j.val) (k : Fin 256) :
    mAt (X5 m c t) (X6 m c t) (X7 m c t) (fTab (X4 m c t) (aOf (X0 m c t))) h j k = Spec.mxAt (A2 m c) (A3 m c) (A4 m c) (A5 m c) (A6 m c) (bt t) h k := by
  unfold mAt Spec.mxAt
  exact congrArg (fun f => Finset.fold max _ f Finset.univ) (funext fun p => congrArg _ (hAt_eq m c t j h hh p k))

theorem Y8_eq (t : Fin cfg0.N) (r : Fin 256) (d : Fin 7168) (u : Fin 4096) (hu : u.val = 256 * (t.val % 16) + r.val) :
    Y8 m c t (ix3 0 r d) = Spec.ySpec (A0 m c) (A1 m c) (A2 m c) (A3 m c) (A4 m c) (A5 m c) (ix3 (bt t) u d) := by
  have hlt : 256 * (t.val % 16) + r.val < 4096 := by clear hu; omega
  obtain rfl : u = ⟨256 * (t.val % 16) + r.val, hlt⟩ := Fin.ext hu
  show X1 m c t (ix3 0 r d) + (∑ k : Fin 256, cAt (X2 m c t) (X3 m c t) r ⟨d.val / 896, by omega⟩ k * (X5 m c t (ix3 0 d k) * X6 m c t (ix3 0 ⟨d.val / 64, by omega⟩ k)))
    * Ideal.exp (∑ s ∈ Finset.range (256 * (t.val % 16) + r.val + 1), dA (X4 m c t) (aOf (X0 m c t)) ⟨d.val / 64, by omega⟩ s) = _
  unfold Spec.ySpec Spec.yAt Spec.decay
  refine congrArg₂ (· + ·) ((read1 m c t r d).trans (congrArg (fun z => A0 m c (ix3 _ _ z)) (Fin.ext ?_))) (congrArg₂ (· * ·) (Finset.sum_congr rfl fun k _ => ?_) ?_)
  · show d.val = 64 * (d.val / 64) + d.val % 64
    omega
  · rw [cAt_eq, carried_eq m c t ⟨d.val / 64, by omega⟩ ⟨d.val % 64, by omega⟩ k d (by show d.val = 64 * (d.val / 64) + d.val % 64; omega)]
    refine congrArg (· * _) (congrArg (fun z => A1 m c (ix4 _ _ z _)) (Fin.ext ?_))
    show d.val / 896 = d.val / 64 / 14
    omega
  · exact congrArg _ (Finset.sum_congr rfl fun i _ => step_eq m c t _ i)

theorem Q9_spec (t : Fin cfg0.N) (r : Fin 512) (k : Fin 256) (d : Fin 7168) (hd : d.val = 512 * min (t.val % 16) 13 + r.val) :
    Q9 m c t (ix3 0 r k) = Spec.qSpec (A2 m c) (A3 m c) (A4 m c) (A5 m c) (A6 m c) (ix3 (bt t) d k) := by
  have hb : bt (tq t) = bt t := Fin.ext (by show (16 * (t.val / 16) + min (t.val % 16) 13) / 16 = t.val / 16; omega)
  have hq : min ((tq t).val % 16) 13 = min (t.val % 16) 13 := by show min ((16 * (t.val / 16) + min (t.val % 16) 13) % 16) 13 = _; omega
  have e : (⟨8 * (bq t).val + r.val / 64, by have := (bq t).isLt; omega⟩ : Fin 112) = ⟨d.val / 64, by omega⟩ := Fin.ext (by show 8 * min (t.val % 16) 13 + r.val / 64 = d.val / 64; omega)
  show codeOf (mAt _ _ _ _ ⟨8 * (bq t).val + r.val / 64, _⟩ ⟨r.val / 64, by omega⟩ k) (hAt _ _ _ _ ⟨8 * (bq t).val + r.val / 64, _⟩ ⟨r.val / 64, by omega⟩ ⟨r.val % 64, by omega⟩ k) = _
  rw [e, mAt_eq m c (tq t) ⟨r.val / 64, by omega⟩ ⟨d.val / 64, by omega⟩ (by rw [hq]; show d.val / 64 = 8 * min (t.val % 16) 13 + r.val / 64; omega),
    hAt_eq m c (tq t) ⟨r.val / 64, by omega⟩ ⟨d.val / 64, by omega⟩ (by rw [hq]; show d.val / 64 = 8 * min (t.val % 16) 13 + r.val / 64; omega), hb]
  refine congrArg (fun z => codeOf _ (Spec.stAt _ _ _ _ _ _ _ z _)) (Fin.ext ?_)
  show r.val % 64 = d.val % 64
  omega

theorem R10_spec (t : Fin cfg0.N) (r : Fin 8) (k : Fin 256) (h : Fin 112) (hh : h.val = 8 * min (t.val % 16) 13 + r.val) :
    R10 m c t (ix3 0 r k) = Spec.rSpec (A2 m c) (A3 m c) (A4 m c) (A5 m c) (A6 m c) (ix3 (bt t) h k) := by
  have hb : bt (tq t) = bt t := Fin.ext (by show (16 * (t.val / 16) + min (t.val % 16) 13) / 16 = t.val / 16; omega)
  have hq : min ((tq t).val % 16) 13 = min (t.val % 16) 13 := by show min ((16 * (t.val / 16) + min (t.val % 16) 13) % 16) 13 = _; omega
  have e : (⟨8 * (bq t).val + r.val, by have := (bq t).isLt; omega⟩ : Fin 112) = h := Fin.ext hh.symm
  show scaleOf (mAt _ _ _ _ ⟨8 * (bq t).val + r.val, _⟩ r k) = _
  rw [e, mAt_eq m c (tq t) r h (by rw [hq]; exact hh), hb]
  rfl

/-! ## The results -/

theorem final8 : (dats m 0 c).arrAt 8 cfg0.N = Spec.ySpec (A0 m c) (A1 m c) (A2 m c) (A3 m c) (A4 m c) (A5 m c) := by
  refine (dats m 0 c).arrAt_eq_of_covers 8 _ (by decide +kernel) fun t hf y => ?_
  blk_simp
  rw [after0_8]
  obtain ⟨r, d, rfl⟩ : ∃ (r : Fin 256) (d : Fin 7168), y = ix3 0 r d := ⟨y 1, y 2, (eq_ix3 y).trans (congrArg (fun z => ix3 z (y 1) (y 2)) (Subsingleton.elim (α := Fin 1) (y 0) 0))⟩
  refine (Y8_eq m c t r d ⟨256 * (t.val % 16) + r.val, by omega⟩ rfl).trans (congrArg _ ?_)
  blk_ext [bt, index8 t]

theorem final9 : (dats m 0 c).arrAt 9 cfg0.N = Spec.qSpec (A2 m c) (A3 m c) (A4 m c) (A5 m c) (A6 m c) := by
  refine (dats m 0 c).arrAt_eq_of_covers 9 _ (by decide +kernel) fun t hf y => ?_
  blk_simp
  rw [after0_9]
  obtain ⟨r, k, rfl⟩ : ∃ (r : Fin 512) (k : Fin 256), y = ix3 0 r k := ⟨y 1, y 2, (eq_ix3 y).trans (congrArg (fun z => ix3 z (y 1) (y 2)) (Subsingleton.elim (α := Fin 1) (y 0) 0))⟩
  refine (Q9_spec m c t r k ⟨512 * min (t.val % 16) 13 + r.val, by omega⟩ rfl).trans (congrArg _ ?_)
  blk_ext [bt, index9 t]

theorem final10 : (dats m 0 c).arrAt 10 cfg0.N = Spec.rSpec (A2 m c) (A3 m c) (A4 m c) (A5 m c) (A6 m c) := by
  refine (dats m 0 c).arrAt_eq_of_covers 10 _ (by decide +kernel) fun t hf y => ?_
  blk_simp
  rw [after0_10]
  obtain ⟨r, k, rfl⟩ : ∃ (r : Fin 8) (k : Fin 256), y = ix3 0 r k := ⟨y 1, y 2, (eq_ix3 y).trans (congrArg (fun z => ix3 z (y 1) (y 2)) (Subsingleton.elim (α := Fin 1) (y 0) 0))⟩
  refine (R10_spec m c t r k ⟨8 * min (t.val % 16) 13 + r.val, by omega⟩ rfl).trans (congrArg _ ?_)
  blk_ext [bt, index10 t]

end Cert.KernelIdeal.Hand
-- ==== Proof.Exponent.lean ====
/- The power of two of a scale, found by eight comparisons and stated by a logarithm: the two agree on every extended real. -/
module

public import proofs.«01_k».proof.Proof.QuantVal

@[expose] public section

noncomputable section

namespace Cert.KernelIdeal.Hand

open Idealize.ShloMosaic

/-! ## The thresholds -/

/-- The threshold of the biased exponent `n`. -/
def thrN (n : ℕ) : EReal := thr (BitVec.ofNat 32 n)

theorem ex_thr (n : ℕ) (h : n < 256) : ((BitVec.ofNat 32 n <<< 23).extractLsb' 23 8).toNat = n := by
  have e : n * 2 ^ 23 < 2 ^ 32 := by norm_num; omega
  simp only [BitVec.extractLsb'_toNat, BitVec.toNat_shiftLeft, BitVec.toNat_ofNat, Nat.shiftLeft_eq, Nat.shiftRight_eq_div_pow]
  omega

theorem fr_thr (n : ℕ) (h : n < 256) : ((BitVec.ofNat 32 n <<< 23).extractLsb' 0 23).toNat = 0 := by
  simp only [BitVec.extractLsb'_toNat, BitVec.toNat_shiftLeft, BitVec.toNat_ofNat, Nat.shiftLeft_eq, Nat.shiftRight_eq_div_pow]
  omega

theorem neg_thr (n : ℕ) (h : n < 256) : ((BitVec.ofNat 32 n <<< 23).extractLsb' 31 1 == 1#1) = false := by
  rw [beq_eq_false_iff_ne]
  intro e
  have := congrArg BitVec.toNat e
  simp only [BitVec.extractLsb'_toNat, BitVec.toNat_shiftLeft, BitVec.toNat_ofNat, Nat.shiftLeft_eq, Nat.shiftRight_eq_div_pow] at this
  omega

theorem thrN_zero : thrN 0 = 0 := by
  simp [thrN, thr, Ideal.ofBits, Ideal.ieee]

theorem thrN_top : thrN 255 = ⊤ := by
  simp [thrN, thr, Ideal.ofBits, Ideal.ieee]

theorem thrN_pow (n : ℕ) (h0 : 0 < n) (h : n < 255) : thrN n = (((2 : ℝ) ^ ((n : ℤ) - 127) : ℝ) : EReal) := by
  unfold thrN thr Ideal.ofBits Ideal.ieee
  dsimp only
  rw [ex_thr n (by omega), fr_thr n (by omega), show (8 + 23 : ℕ) = 31 from rfl, neg_thr n (by omega), if_neg (by omega), if_neg (by omega)]
  refine congrArg _ ?_
  rw [if_neg Bool.false_ne_true, one_mul, show ((2 ^ 23 + 0 : ℕ) : ℝ) = (2 : ℝ) ^ (23 : ℤ) by norm_num, ← zpow_add₀ (by norm_num)]
  refine congrArg _ ?_
  norm_num

/-! ## The search -/

/-- What is known while the search holds `b` and has `w` exponents left to choose from. -/
def Inv (x : EReal) (b w : ℕ) : Prop := b + w ≤ 256 ∧ (b = 0 ∨ thrN b ≤ x) ∧ (b + w = 256 ∨ x < thrN (b + w))

theorem sstep_inv (x : EReal) (b s : ℕ) (h : Inv x b (2 * s)) : ∃ b', sstep x (BitVec.ofNat 32 b) (BitVec.ofNat 32 s) = BitVec.ofNat 32 b' ∧ Inv x b' s := by
  obtain ⟨h1, h2, h3⟩ := h
  unfold sstep
  rw [← BitVec.ofNat_add]
  by_cases hx : x < thrN (b + s)
  · exact ⟨b, if_pos hx, by omega, h2, .inr hx⟩
  · refine ⟨b + s, if_neg hx, by omega, .inr (not_lt.1 hx), ?_⟩
    rw [show b + s + s = b + 2 * s by omega]
    exact h3

/-- The search finds the largest exponent whose threshold is not above `x`. -/
theorem search_spec (x : EReal) : ∃ b, search x = BitVec.ofNat 32 b ∧ b ≤ 255 ∧ (b = 0 ∨ thrN b ≤ x) ∧ (b = 255 ∨ x < thrN (b + 1)) := by
  obtain ⟨b1, e1, i1⟩ := sstep_inv x 0 128 ⟨by omega, .inl rfl, .inl (by omega)⟩
  obtain ⟨b2, e2, i2⟩ := sstep_inv x b1 64 i1
  obtain ⟨b3, e3, i3⟩ := sstep_inv x b2 32 i2
  obtain ⟨b4, e4, i4⟩ := sstep_inv x b3 16 i3
  obtain ⟨b5, e5, i5⟩ := sstep_inv x b4 8 i4
  obtain ⟨b6, e6, i6⟩ := sstep_inv x b5 4 i5
  obtain ⟨b7, e7, i7⟩ := sstep_inv x b6 2 i6
  obtain ⟨b8, e8, i8⟩ := sstep_inv x b7 1 i7
  refine ⟨b8, ?_, by have := i8.1; omega, i8.2.1, i8.2.2.imp (fun h => by omega) id⟩
  unfold search
  rw [e1, e2, e3, e4, e5, e6, e7, e8]

/-! ## The exponent by a logarithm -/

/-- The exponent by the logarithm to base two. -/
def refE (m : EReal) : EReal :=
  if m = 0 ∨ m * Ideal.ofBits .f32 0x3B124925#32 < Ideal.ofBits .f32 0x00800000#32 then 0
  else Ideal.liftRound Int.floor (Ideal.div (Ideal.log (m * Ideal.ofBits .f32 0x3B124925#32)) (Ideal.log (Ideal.ofBits .f32 0x40000000#32))) + Ideal.ofBits .f32 0x3F800000#32

/-- The scale, with the values past the range. -/
def refScale (m : EReal) : EReal :=
  if m * Ideal.ofBits .f32 0x3B124925#32 = ⊤ then 0
  else if Ideal.ofBits .f32 0x7F000000#32 ≤ m * Ideal.ofBits .f32 0x3B124925#32 then ⊤ else Ideal.exp2 (refE m)

/-- The inverse scale, with the values past the range. -/
def refInv (m : EReal) : EReal :=
  if m * Ideal.ofBits .f32 0x3B124925#32 = ⊤ then Ideal.ofBits .f32 0xFF000000#32
  else if Ideal.ofBits .f32 0x7F000000#32 ≤ m * Ideal.ofBits .f32 0x3B124925#32 then ⊥
  else if Ideal.ofBits .f32 0x7E800000#32 ≤ m * Ideal.ofBits .f32 0x3B124925#32 then 0 else Ideal.exp2 (0 - refE m)

theorem thr_of (n : ℕ) : thr (BitVec.ofNat 32 n) = thrN n := rfl

theorem log_two : Ideal.log (Ideal.ofBits .f32 0x40000000#32) = ((Real.log 2 : ℝ) : EReal) := by
  rw [show Ideal.ofBits .f32 0x40000000#32 = thrN 128 from rfl, thrN_pow 128 (by omega) (by omega)]
  rw [show ((128 : ℕ) : ℤ) - 127 = 1 by norm_num, zpow_one]
  show (if (2 : ℝ) ≤ 0 then ⊥ else ((Real.log 2 : ℝ) : EReal)) = _
  rw [if_neg (by norm_num)]

theorem one_eq : Ideal.ofBits .f32 0x3F800000#32 = ((1 : ℝ) : EReal) := by
  rw [show Ideal.ofBits .f32 0x3F800000#32 = thrN 127 from rfl, thrN_pow 127 (by omega) (by omega)]
  norm_num

/-- A number between two neighbouring powers of two has the lower one's exponent for the floor of its logarithm. -/
theorem floor_log (r : ℝ) (k : ℤ) (h1 : (2 : ℝ) ^ k ≤ r) (h2 : r < (2 : ℝ) ^ (k + 1)) :
    Ideal.liftRound Int.floor (Ideal.div (Ideal.log (r : EReal)) (Ideal.log (Ideal.ofBits .f32 0x40000000#32))) = ((k : ℝ) : EReal) := by
  have hr : 0 < r := lt_of_lt_of_le (zpow_pos (by norm_num) k) h1
  have hl : (0 : ℝ) < Real.log 2 := Real.log_pos (by norm_num)
  rw [log_two]
  show Ideal.liftRound Int.floor (Ideal.div (if r ≤ 0 then ⊥ else ((Real.log r : ℝ) : EReal)) _) = _
  rw [if_neg (not_le.2 hr)]
  unfold Ideal.div
  rw [if_neg (by exact_mod_cast hl.ne'), ← EReal.coe_inv, ← EReal.coe_mul]
  show ((Int.floor (Real.log r * (Real.log 2)⁻¹) : ℝ) : EReal) = _
  rw [show Int.floor (Real.log r * (Real.log 2)⁻¹) = k from ?_]
  rw [Int.floor_eq_iff, ← div_eq_mul_inv, le_div_iff₀ hl, div_lt_iff₀ hl]
  have e1 := Real.log_le_log (zpow_pos (by norm_num) k) h1
  have e2 := Real.log_lt_log hr h2
  rw [Real.log_zpow] at e1 e2
  exact ⟨e1, by push_cast at e2; exact e2⟩

theorem exp2_int (k : ℤ) : Ideal.exp2 (((k : ℝ) : ℝ) : EReal) = (((2 : ℝ) ^ k : ℝ) : EReal) := by
  show ((Real.rpow 2 (k : ℝ) : ℝ) : EReal) = _
  exact congrArg _ (Real.rpow_intCast 2 k)

theorem thrN_mono (a b : ℕ) (h : a ≤ b) (hb : b ≤ 255) : thrN a ≤ thrN b := by
  rcases (by omega : b = 255 ∨ a = 0 ∨ (0 < a ∧ b < 255)) with rfl | rfl | ⟨h1, h2⟩
  · rw [thrN_top]; exact le_top
  · rw [thrN_zero]
    rcases (by omega : b = 255 ∨ b = 0 ∨ (0 < b ∧ b < 255)) with rfl | rfl | ⟨h1, h2⟩
    · rw [thrN_top]; exact le_top
    · rw [thrN_zero]
    · rw [thrN_pow b h1 h2]
      exact_mod_cast (zpow_pos (by norm_num : (0 : ℝ) < 2) _).le
  · rw [thrN_pow a h1 (by omega), thrN_pow b (by omega) h2]
    exact EReal.coe_le_coe_iff.2 (zpow_le_zpow_right₀ (by norm_num) (by omega))

theorem thrN_pos (b : ℕ) (h : 0 < b) (hb : b ≤ 255) : 0 < thrN b := by
  refine lt_of_lt_of_le ?_ (thrN_mono 1 b h hb)
  rw [thrN_pow 1 (by omega) (by omega)]
  exact_mod_cast (zpow_pos (by norm_num : (0 : ℝ) < 2) _)

theorem thr_word (w : BitVec 32) (n : ℕ) (h : w = BitVec.ofNat 32 n) : thr w = thrN n := by rw [h]; rfl

/-- The word of an exponent as the kernel has it. -/
theorem expo_eq (m : EReal) (b : ℕ) (e : search (m * Ideal.ofBits .f32 0x3B124925#32) = BitVec.ofNat 32 b) (hb : b ≤ 255) (h0 : b ≠ 0) (hm : m ≠ 0) :
    expo m = BitVec.ofNat 32 b - 126#32 := by
  unfold expo
  rw [e, if_neg]
  rintro (h | h)
  · exact hm h
  · have := congrArg BitVec.toNat h
    simp only [BitVec.toNat_ofNat] at this
    omega

theorem up_word (b : ℕ) : BitVec.ofNat 32 b - 126#32 + 127#32 = BitVec.ofNat 32 (b + 1) := by
  rw [BitVec.ofNat_add]
  bv_omega

theorem down_word (b : ℕ) (hb : b ≤ 253) : 127#32 - (BitVec.ofNat 32 b - 126#32) = BitVec.ofNat 32 (253 - b) := by
  apply BitVec.eq_of_toNat_eq
  simp only [BitVec.toNat_sub, BitVec.toNat_ofNat]
  omega

theorem thrN_pow_zero : Ideal.exp2 0 = thrN 127 := by
  rw [thrN_pow 127 (by omega) (by omega)]
  rw [show ((127 : ℕ) : ℤ) - 127 = 0 by norm_num, ← exp2_int 0, Int.cast_zero, EReal.coe_zero]

/-- The reference's scale and inverse are the kernel's. -/
theorem scales_eq (m : EReal) : refScale m = scaleOf m ∧ refInv m = thr (127#32 - expo m) := by
  obtain ⟨b, e, hb, h1, h2⟩ := search_spec (m * Ideal.ofBits .f32 0x3B124925#32)
  have hm0 : m = 0 → b = 0 := by
    rintro rfl
    by_contra h
    rcases h1 with h1 | h1
    · exact h h1
    · rw [zero_mul] at h1
      exact absurd (thrN_pos b (by omega) hb) (not_lt.2 h1)
  unfold refScale refInv refE scaleOf
  rw [show Ideal.ofBits .f32 0x7F000000#32 = thrN 254 from rfl, show Ideal.ofBits .f32 0x7E800000#32 = thrN 253 from rfl, show Ideal.ofBits .f32 0x00800000#32 = thrN 1 from rfl]
  by_cases hb0 : b = 0
  · subst hb0
    have hx := h2.resolve_left (by omega)
    have hE : expo m = 0#32 := by unfold expo; rw [e]; exact if_pos (.inr rfl)
    rw [hE, if_neg (lt_of_lt_of_le hx le_top).ne, if_neg (not_le.2 (lt_of_lt_of_le hx (thrN_mono _ _ (by omega) (by omega)))), if_pos (.inr hx),
      if_neg (lt_of_lt_of_le hx le_top).ne, if_neg (not_le.2 (lt_of_lt_of_le hx (thrN_mono _ _ (by omega) (by omega)))), if_neg (not_le.2 (lt_of_lt_of_le hx (thrN_mono _ _ (by omega) (by omega)))),
      thr_word (0#32 + 127#32) 127 rfl, thr_word (127#32 - 0#32) 127 rfl, sub_zero, thrN_pow_zero]
    exact ⟨rfl, rfl⟩
  · have hm : m ≠ 0 := fun h => hb0 (hm0 h)
    have hx := h1.resolve_left hb0
    rw [expo_eq m b e hb hb0 hm, up_word]
    by_cases hb5 : b = 255
    · subst hb5
      rw [thrN_top, top_le_iff] at hx
      rw [hx, if_pos rfl, if_pos rfl]
      refine ⟨?_, rfl⟩
      show (0 : EReal) = Ideal.ofBits .f32 0x80000000#32
      simp [Ideal.ofBits, Ideal.ieee]
    have hy := h2.resolve_left hb5
    have hne := (lt_of_lt_of_le hy le_top).ne
    rw [if_neg hne, if_neg hne]
    by_cases hb4 : b = 254
    · subst hb4
      rw [if_pos hx, if_pos hx]
      refine ⟨thrN_top.symm, ?_⟩
      show (⊥ : EReal) = Ideal.ofBits .f32 0xFF800000#32
      simp [Ideal.ofBits, Ideal.ieee]
    have hlt : ¬thrN 254 ≤ m * Ideal.ofBits .f32 0x3B124925#32 := not_le.2 (lt_of_lt_of_le hy (thrN_mono _ _ (by omega) (by omega)))
    rw [if_neg hlt, if_neg hlt, down_word b (by omega)]
    have hge : ¬(m = 0 ∨ m * Ideal.ofBits .f32 0x3B124925#32 < thrN 1) := by
      rintro (h | h)
      · exact hm h
      · exact absurd h (not_lt.2 (le_trans (thrN_mono _ _ (by omega) hb) hx))
    rw [if_neg hge]
    have hbot : m * Ideal.ofBits .f32 0x3B124925#32 ≠ ⊥ := fun h => by
      rw [h, le_bot_iff] at hx
      exact absurd (hx ▸ thrN_pos b (by omega) hb) (not_lt.2 bot_le)
    obtain ⟨r, hr⟩ : ∃ r : ℝ, m * Ideal.ofBits .f32 0x3B124925#32 = (r : EReal) := ⟨_, (EReal.coe_toReal hne hbot).symm⟩
    rw [hr] at hx hy ⊢
    rw [thrN_pow b (by omega) (by omega), EReal.coe_le_coe_iff] at hx
    rw [thrN_pow (b + 1) (by omega) (by omega), EReal.coe_lt_coe_iff] at hy
    rw [floor_log r ((b : ℤ) - 127) hx (by rw [show (b : ℤ) - 127 + 1 = ((b + 1 : ℕ) : ℤ) - 127 by push_cast; ring]; exact hy), one_eq, ← EReal.coe_add,
      show (((b : ℤ) - 127 : ℤ) : ℝ) + 1 = (((b : ℤ) - 126 : ℤ) : ℝ) by push_cast; ring]
    refine ⟨?_, ?_⟩
    · rw [exp2_int, thr_of, thrN_pow (b + 1) (by omega) (by omega), show ((b + 1 : ℕ) : ℤ) - 127 = (b : ℤ) - 126 by push_cast; ring]
    · rw [thr_of]
      by_cases hb3 : b = 253
      · subst hb3
        rw [if_pos (by rw [thrN_pow 253 (by omega) (by omega)]; exact EReal.coe_le_coe_iff.2 hx)]
        exact thrN_zero.symm
      · rw [if_neg, ← EReal.coe_zero, ← EReal.coe_sub, show (0 : ℝ) - (((b : ℤ) - 126 : ℤ) : ℝ) = ((126 - (b : ℤ) : ℤ) : ℝ) by push_cast; ring, exp2_int,
          thrN_pow (253 - b) (by omega) (by omega), show ((253 - b : ℕ) : ℤ) - 127 = 126 - (b : ℤ) by omega]
        refine not_le.2 (lt_of_lt_of_le ?_ (thrN_mono (b + 1) _ (by omega) (by omega)))
        rw [thrN_pow (b + 1) (by omega) (by omega)]
        exact EReal.coe_lt_coe_iff.2 hy

end Cert.KernelIdeal.Hand
-- ==== Proof.RefVal.lean ====
/- The three result arrays after the reference's run, as functions of the arguments. -/
module

public import proofs.«01_k».proof.Proof.Gen.ReferenceIdeal.Frame
public import Idealize.ShloMosaic.Lib.Pipeline.ValueKit
public import Idealize.ShloMosaic.Lib.Claim
public import Idealize.ShloMosaic.Lib.StableHlo.ReadAt
public import proofs.«01_k».proof.Proof.Spec
public import proofs.«01_k».proof.Proof.Exponent

@[expose] public section

set_option maxRecDepth 16384

noncomputable section

namespace Cert.ReferenceIdeal.Hand

open Idealize.ShloMosaic Idealize.ShloMosaic.TcCoe Idealize.ShloMosaic.Tactic Idealize.ShloMosaic.Pointwise
open Idealize.SL.Sem
open Idealize.ShloMosaic.Pipeline (Dat)
open Cert.ReferenceIdeal Cert.ReferenceIdeal.Gen

variable (m : (ℓ : Loc nD τ sig) → Buf (Elt Ideal) ℓ) (c : Dev nD)

abbrev A0 : Vec Ideal S6x4096x7168 .bf16 := m ((c : Thread nD τ).loc main_arg0)
abbrev A1 : Vec Ideal S6x4096x8x256 .bf16 := m ((c : Thread nD τ).loc main_arg1)
abbrev A2 : Vec Ideal S6x4096x112 .f32 := m ((c : Thread nD τ).loc main_arg2)
abbrev A3 : Vec Ideal S112 .f32 := m ((c : Thread nD τ).loc main_arg3)
abbrev A4 : Vec Ideal S6x112x64x256 .fp8e4m3 := m ((c : Thread nD τ).loc main_arg4)
abbrev A5 : Vec Ideal S6x112x256 .f32 := m ((c : Thread nD τ).loc main_arg5)
abbrev A6 : Vec Ideal S6x112x64x256 .f32 := m ((c : Thread nD τ).loc main_arg6)

abbrev X0 (t : Fin cfg0.N) : Vec Ideal S6x4096x112x64 .bf16 := iblk m c 0 t
abbrev X1 (t : Fin cfg0.N) : Vec Ideal S48x4096x256 .bf16 := iblk m c 1 t
abbrev X2 (t : Fin cfg0.N) : Vec Ideal S6x4096x112 .f32 := iblk m c 2 t
abbrev X3 (t : Fin cfg0.N) : Vec Ideal S6x112 .f32 := iblk m c 3 t
abbrev X4 (t : Fin cfg0.N) : Vec Ideal S6x112x64x256 .fp8e4m3 := iblk m c 4 t
abbrev X5 (t : Fin cfg0.N) : Vec Ideal S6x112x256 .f32 := iblk m c 5 t
abbrev X6 (t : Fin cfg0.N) : Vec Ideal S6x112x64x256 .f32 := iblk m c 6 t

theorem idx : ∀ t : Fin cfg0.N, win0_0.index t = ![0, 0, 0, 0] ∧ win0_1.index t = ![0, 0, 0] ∧ win0_2.index t = ![0, 0, 0] ∧ win0_3.index t = ![0, 0] ∧ win0_4.index t = ![0, 0, 0, 0]
    ∧ win0_5.index t = ![0, 0, 0] ∧ win0_6.index t = ![0, 0, 0, 0] ∧ win0_7.index t = ![0, 0, 0] ∧ win0_8.index t = ![0, 0, 0] ∧ win0_9.index t = ![0, 0, 0] :=
  (by decide +kernel : ∀ t : Fin grid0.N, _)

theorem V6 : V m c main_v6 = Host.exp (Host.reduceWindowAdd (F := Ideal) (φ := .f32) ![1, 4096, 1] ![1, 1, 1] ![0, 4095, 0] ![0, 0, 0] (V m c main_v4 : FVec Ideal S6x4096x112 .f32) (constant S_ .f32 0x00000000#32) reduceWindows_S6x4096x112_S6x4096x112_w1s1p0_0_w4096s1p4095_0_w1s1p0_0 h_S_) := by
  unfold V
  simp only [List.flatten_cons, List.flatten_nil, List.append_nil, List.cons_append, List.nil_append]
  after_reads_simp
  rfl

theorem V4 (b : Fin 6) (s : Fin 4096) (h : Fin 112) : (V m c main_v4 : FVec Ideal S6x4096x112 .f32) (ix3 b s h) = A2 m c (ix3 b s h) * -Ideal.exp (A3 m c (ix1 h)) := by
  unfold V
  simp only [List.flatten_cons, List.flatten_nil, List.append_nil, List.cons_append, List.nil_append]
  after_reads_at

theorem V7 (b : Fin 6) (s : Fin 4096) (h : Fin 112) (p : Fin 64) : (V m c main_v7 : FVec Ideal S6x4096x112x64 .bf16) (ix4 b s h p) = A0 m c (ix3 b s ⟨64 * h.val + p.val, by omega⟩) := by
  unfold V
  simp only [List.flatten_cons, List.flatten_nil, List.append_nil, List.cons_append, List.nil_append]
  after_reads_at
  refine congrArg (fun z => A0 m c (ix3 b s z)) (Fin.ext ?_)
  show h.val * 64 + p.val = 64 * h.val + p.val
  omega

theorem V9 (b : Fin 6) (g : Fin 8) (s : Fin 4096) (k : Fin 256) : (V m c main_v9 : FVec Ideal S48x4096x256 .bf16) (ix3 ⟨8 * b.val + g.val, by omega⟩ s k) = A1 m c (ix4 b s g k) := by
  unfold V
  simp only [List.flatten_cons, List.flatten_nil, List.append_nil, List.cons_append, List.nil_append]
  after_reads_at

theorem V11 (b : Fin 6) (h : Fin 112) : (V m c main_v11 : FVec Ideal S6x112 .f32) (ix2 b h) = (V m c main_v6 : FVec Ideal S6x4096x112 .f32) (ix3 b ⟨4095, by omega⟩ h) := by
  unfold V
  simp only [List.flatten_cons, List.flatten_nil, List.append_nil, List.cons_append, List.nil_append]
  after_reads_at

theorem blk0 (t : Fin cfg0.N) : X0 m c t = V m c main_v7 := by
  unfold X0 iblk; generalize V m c = f; funext y; blk_ext! [idx t]

theorem blk1 (t : Fin cfg0.N) : X1 m c t = V m c main_v9 := by
  unfold X1 iblk; generalize V m c = f; funext y; blk_ext! [idx t]

theorem blk2 (t : Fin cfg0.N) : X2 m c t = V m c main_v6 := by
  unfold X2 iblk; generalize V m c = f; funext y; blk_ext! [idx t]

theorem blk3 (t : Fin cfg0.N) : X3 m c t = V m c main_v11 := by
  unfold X3 iblk; generalize V m c = f; funext y; blk_ext! [idx t]

theorem blk4 (t : Fin cfg0.N) : X4 m c t = A4 m c := by
  funext y; blk_ext! [iblk, idx t]

theorem blk5 (t : Fin cfg0.N) : X5 m c t = A5 m c := by
  funext y; blk_ext! [iblk, idx t]

theorem blk6 (t : Fin cfg0.N) : X6 m c t = A6 m c := by
  funext y; blk_ext! [iblk, idx t]

theorem foldl_add (n : ℕ) (f : Fin n → EReal) (v : EReal) : (List.finRange n).foldl (fun r i => r + f i) v = v + ∑ i, f i := by
  rw [Fin.sum_univ_def]
  generalize List.finRange n = L
  induction L generalizing v with
  | nil => simp
  | cons a L ih => rw [List.foldl_cons, ih, List.map_cons, List.sum_cons, add_assoc]

theorem shift_sum (F : ℕ → EReal) (N t : ℕ) (ht : t ≤ N) : ∑ n ∈ Finset.range (N + 1), (if N ≤ t + n then F (t + n - N) else 0) = ∑ i ∈ Finset.range (t + 1), F i := by
  rw [show N + 1 = (N - t) + (t + 1) by omega, Finset.sum_range_add]
  rw [Finset.sum_eq_zero (fun n hn => if_neg (by have := Finset.mem_range.mp hn; omega)), zero_add]
  refine Finset.sum_congr rfl fun n hn => ?_
  have hn := Finset.mem_range.mp hn
  rw [if_pos (by omega), show t + (N - t + n) - N = n by omega]

theorem cumsum_at (x : Vec Ideal S6x4096x112 .f32) (h : S6x4096x112.ReduceWindows (![1, 4096, 1] : Fin 3 → ℕ) ![1, 1, 1] ![0, 4095, 0] ![0, 0, 0] S6x4096x112) (b : Fin 6) (t : Fin 4096) (g : Fin 112) :
    Ideal.hostReduceWindowAdd ![1, 4096, 1] ![1, 1, 1] ![0, 4095, 0] ![0, 0, 0] h x 0 (ix3 b t g) = ∑ i ∈ Finset.range (t.val + 1), if hi : i < 4096 then x (ix3 b ⟨i, hi⟩ g) else 0 := by
  unfold Ideal.hostReduceWindowAdd Host.reduceWindow
  dsimp only
  rw [foldl_add, zero_add]
  refine (Fintype.sum_equiv (Shape.rowMajor ⟨3, ![1, 4096, 1]⟩).symm _ (fun w : (⟨3, ![1, 4096, 1]⟩ : Shape).Idx =>
    if 4095 ≤ t.val + (w 1).val then (if hi : t.val + (w 1).val - 4095 < 4096 then x (ix3 b ⟨t.val + (w 1).val - 4095, hi⟩ g) else 0) else 0) fun i => ?_).trans ?_
  · suffices key : ∀ w : (⟨3, ![1, 4096, 1]⟩ : Shape).Idx, (if hin : ∀ a : Fin 3, (![0, 4095, 0] : Fin 3 → ℕ) a ≤ (ix3 b t g a).val * (![1, 1, 1] : Fin 3 → ℕ) a + (w a).val ∧ (ix3 b t g a).val * (![1, 1, 1] : Fin 3 → ℕ) a + (w a).val - (![0, 4095, 0] : Fin 3 → ℕ) a < S6x4096x112.size a then x (fun a => ⟨_, (hin a).2⟩) else 0)
        = if 4095 ≤ t.val + (w 1).val then (if hi : t.val + (w 1).val - 4095 < 4096 then x (ix3 b ⟨t.val + (w 1).val - 4095, hi⟩ g) else 0) else 0 by
      exact Eq.trans (by congr) (key ((Shape.rowMajor ⟨3, ![1, 4096, 1]⟩).symm i))
    intro w
    have h0 : (w 0).val = 0 := by have h : (w 0).val < 1 := (w 0).isLt
                                  omega
    have h2 : (w 2).val = 0 := by have h : (w 2).val < 1 := (w 2).isLt
                                  omega
    have h1 : (w 1).val < 4096 := (w 1).isLt
    have hb := b.isLt
    have ht := t.isLt
    have hg := g.isLt
    by_cases hc : 4095 ≤ t.val + (w 1).val
    · rw [if_pos hc, dif_pos (show t.val + (w 1).val - 4095 < 4096 by omega), dif_pos]
      swap
      · intro a
        fin_cases a
        · show 0 ≤ b.val * 1 + (w 0).val ∧ b.val * 1 + (w 0).val - 0 < 6
          omega
        · show 4095 ≤ t.val * 1 + (w 1).val ∧ t.val * 1 + (w 1).val - 4095 < 4096
          omega
        · show 0 ≤ g.val * 1 + (w 2).val ∧ g.val * 1 + (w 2).val - 0 < 112
          omega
      · refine congrArg x (funext fun a => Fin.ext ?_)
        fin_cases a
        · show b.val * 1 + (w 0).val - 0 = b.val
          omega
        · show t.val * 1 + (w 1).val - 4095 = t.val + (w 1).val - 4095
          omega
        · show g.val * 1 + (w 2).val - 0 = g.val
          omega
    · rw [if_neg hc, dif_neg]
      intro hh
      have := (hh 1).1
      have : 4095 ≤ t.val * 1 + (w 1).val := this
      omega
  · rw [sum_idx3]
    rw [Fin.sum_univ_one]
    refine (Finset.sum_congr rfl fun b' _ => Fin.sum_univ_one _).trans ?_
    exact (Fin.sum_univ_eq_sum_range (fun n => if 4095 ≤ t.val + n then (if hi : t.val + n - 4095 < 4096 then x (ix3 b ⟨t.val + n - 4095, hi⟩ g) else 0) else 0) 4096).trans
      (shift_sum (fun i => if hi : i < 4096 then x (ix3 b ⟨i, hi⟩ g) else 0) 4095 t.val (by have := t.isLt; omega))

theorem exp_at {s : Shape} (x : FVec Ideal s .f32) (i : s.Idx) : Host.exp x i = Ideal.exp (x i) := rfl

theorem rwa_at {s t u : Shape} (w st lo hi : Fin s.rank → ℕ) (x : FVec Ideal s .f32) (v : FVec Ideal u .f32) (h : s.ReduceWindows w st lo hi t) (hu : 0 < u.numel) (i : t.Idx) :
    Host.reduceWindowAdd (F := Ideal) (φ := .f32) w st lo hi x v h hu i = Ideal.hostReduceWindowAdd w st lo hi h x (v (Shape.Idx.first hu)) i := rfl

theorem decay_at (b : Fin 6) (s : Fin 4096) (h : Fin 112) : (V m c main_v6 : FVec Ideal S6x4096x112 .f32) (ix3 b s h) = Spec.decay (A2 m c) (A3 m c) b h (s.val + 1) := by
  rw [V6, exp_at, rwa_at]
  have e : (constant S_ .f32 0x00000000#32 : FVec Ideal S_ .f32) (Shape.Idx.first h_S_) = 0 := Ideal.ofBits_zero_f32
  rw [e, cumsum_at]
  unfold Spec.decay
  refine congrArg Ideal.exp (Finset.sum_congr rfl fun i _ => ?_)
  unfold Spec.step Spec.rate
  split
  · rw [V4, zero_sub]
  · rfl

theorem pay3_at (x4 : Vec Ideal S6x112x64x256 .fp8e4m3) (x5 : Vec Ideal S6x112x256 .f32) (x3 : Vec Ideal S6x112 .f32) (b : Fin 6) (h : Fin 112) (p : Fin 64) (k : Fin 256) :
    k0_pay3 x4 x5 x3 (ix4 b h p k) = x3 (ix2 b h) * (x4 (ix4 b h p k) * x5 (ix3 b h k)) := by
  unfold k0_pay3
  pointwise

theorem pay5_at (P : FVec Ideal S6x112x64x256 .f32) (x : Vec Ideal S6x112x64x256 .f32) (b : Fin 6) (h : Fin 112) (k : Fin 256) :
    k0_pay5 P x (ix3 b h k) = Finset.fold max (Ideal.ofBits .f32 0xFF800000#32) (fun p : Fin 64 => FloatOps.absf (F := Ideal) (φ := .f32) (P (ix4 b h p k) + x (ix4 b h p k))) Finset.univ := by
  unfold k0_pay5 k0_pay4
  pointwise

theorem core7 {s : Shape} (Q : FVec Ideal s .f32) (a t z two one : Ideal .f32) (y : s.Idx) :
    select (ori (cmpf .oeq Q (broadcast s z)) (cmpf .olt (mulf Q (broadcast s a)) (broadcast s t)))
      (broadcast s z) (addf (floor (divf (log (mulf Q (broadcast s a))) (log (broadcast s two)))) (broadcast s one)) y
    = if Q y = z ∨ Q y * a < t then z else Ideal.liftRound Int.floor (Ideal.div (Ideal.log (Q y * a)) (Ideal.log two)) + one := by
  pointwise
  generalize Q y = M
  cases hA : decide (M = z) <;> cases hB : decide (M * a < t) <;> simp only [decide_eq_true_eq, decide_eq_false_iff_not] at hA hB
  · rw [if_neg (by rintro (h | h); exacts [hA h, hB h])]; rfl
  · rw [if_pos (Or.inr hB)]; rfl
  · rw [if_pos (Or.inl hA)]; rfl
  · rw [if_pos (Or.inl hA)]; rfl

theorem core9 {s : Shape} (Q e : FVec Ideal s .f32) (a t z i : Ideal .f32) (y : s.Idx) :
    select (cmpf .oeq (mulf Q (broadcast s a)) (broadcast s i)) (broadcast s z)
      (select (cmpf .oge (mulf Q (broadcast s a)) (broadcast s t)) (broadcast s i) (exp2 e)) y
    = if Q y * a = i then z else if t ≤ Q y * a then i else Ideal.exp2 (e y) := by
  pointwise
  rfl

theorem core8 {s : Shape} (Q e : FVec Ideal s .f32) (a t u z i j l : Ideal .f32) (y : s.Idx) :
    Scalar.select (Ideal.cmp .oeq (mulf Q (broadcast s a) y) i) l (select (cmpf .oge (mulf Q (broadcast s a)) (broadcast s t)) (broadcast s j)
      (select (cmpf .oge (mulf Q (broadcast s a)) (broadcast s u)) (broadcast s z) (exp2 (subf (broadcast s z) e))) y)
    = if Q y * a = i then l else if t ≤ Q y * a then j else if u ≤ Q y * a then z else Ideal.exp2 (z - e y) := by
  pointwise
  by_cases h1 : Q y * a = i
  · simp [Ideal.cmp, Scalar.select, h1]
  · simp [Ideal.cmp, Scalar.select, h1]
    rfl

theorem top_bits : Ideal.ofBits .f32 0x7F800000#32 = ⊤ := by
  simp [Ideal.ofBits, Ideal.ieee]

theorem bot_bits : Ideal.ofBits .f32 0xFF800000#32 = ⊥ := by
  simp [Ideal.ofBits, Ideal.ieee]

theorem pay7_at (P : FVec Ideal S6x112x64x256 .f32) (x : Vec Ideal S6x112x64x256 .f32) (y : S6x112x256.Idx) : k0_pay7 P x y = KernelIdeal.Hand.refE (k0_pay5 P x y) := by
  unfold k0_pay7 k0_pay6
  generalize k0_pay5 P x = Q
  refine (core7 Q (Ideal.ofBits .f32 0x3B124925#32) (Ideal.ofBits .f32 0x00800000#32) (Ideal.ofBits .f32 0x00000000#32) (Ideal.ofBits .f32 0x40000000#32) (Ideal.ofBits .f32 0x3F800000#32) y).trans ?_
  rw [Ideal.ofBits_zero_f32]
  rfl

theorem pay9_at (P : FVec Ideal S6x112x64x256 .f32) (x : Vec Ideal S6x112x64x256 .f32) (y : S6x112x256.Idx) : k0_pay9 P x y = KernelIdeal.Hand.refScale (k0_pay5 P x y) := by
  have h7 := pay7_at P x y
  revert h7
  unfold k0_pay9 k0_pay6
  generalize k0_pay7 P x = e
  generalize k0_pay5 P x = Q
  intro h7
  refine (core9 Q e (Ideal.ofBits .f32 0x3B124925#32) (Ideal.ofBits .f32 0x7F000000#32) (Ideal.ofBits .f32 0x00000000#32) (Ideal.ofBits .f32 0x7F800000#32) y).trans ?_
  rw [h7, Ideal.ofBits_zero_f32, top_bits]
  unfold KernelIdeal.Hand.refScale
  rfl

theorem pay8_at (P : FVec Ideal S6x112x64x256 .f32) (x : Vec Ideal S6x112x64x256 .f32) (y : S6x112x256.Idx) :
    Scalar.select (Ideal.cmp .oeq (k0_pay6 P x y) (Ideal.ofBits .f32 0x7F800000#32)) (Ideal.ofBits .f32 0xFF000000#32) (k0_pay8 P x y) = KernelIdeal.Hand.refInv (k0_pay5 P x y) := by
  have h7 := pay7_at P x y
  revert h7
  unfold k0_pay8 k0_pay6
  generalize k0_pay7 P x = e
  generalize k0_pay5 P x = Q
  intro h7
  refine (core8 Q e (Ideal.ofBits .f32 0x3B124925#32) (Ideal.ofBits .f32 0x7F000000#32) (Ideal.ofBits .f32 0x7E800000#32) (Ideal.ofBits .f32 0x00000000#32) (Ideal.ofBits .f32 0x7F800000#32) (Ideal.ofBits .f32 0xFF800000#32) (Ideal.ofBits .f32 0xFF000000#32) y).trans ?_
  rw [h7, Ideal.ofBits_zero_f32, top_bits, bot_bits]
  unfold KernelIdeal.Hand.refInv
  rfl

theorem pay1_at (H : FVec Ideal S6x112x64x256 .f32) (x i : FVec Ideal S6x112x256 .f32) (v : EReal) (b : Fin 6) (d : Fin 7168) (k : Fin 256) :
    k0_pay1 H x i v (ix3 b d k) = min (Ideal.ofBits .f32 0x43E00000#32) (max (Ideal.ofBits .f32 0xC3E00000#32) (H (ix4 b ⟨d.val / 64, by omega⟩ ⟨d.val % 64, by omega⟩ k) *
      Scalar.select (Ideal.cmp .oeq (x (ix3 b ⟨d.val / 64, by omega⟩ k)) v) (Ideal.ofBits .f32 0xFF000000#32) (i (ix3 b ⟨d.val / 64, by omega⟩ k)))) := by
  unfold k0_pay1
  pointwise

theorem pay2_at (x4 : Vec Ideal S6x112x64x256 .fp8e4m3) (x5 : Vec Ideal S6x112x256 .f32) (x1 : Vec Ideal S48x4096x256 .bf16) (x0 : Vec Ideal S6x4096x112x64 .bf16) (x2 : Vec Ideal S6x4096x112 .f32)
    (b : Fin 6) (s : Fin 4096) (d : Fin 7168) :
    k0_pay2 x4 x5 x1 x0 x2 (ix3 b s d) = x0 (ix4 b s ⟨d.val / 64, by omega⟩ ⟨d.val % 64, by omega⟩)
      + (∑ k : Fin 256, x1 (ix3 ⟨8 * b.val + d.val / 896, by omega⟩ s k) * (x4 (ix4 b ⟨d.val / 64, by omega⟩ ⟨d.val % 64, by omega⟩ k) * x5 (ix3 b ⟨d.val / 64, by omega⟩ k))) * x2 (ix3 b s ⟨d.val / 64, by omega⟩) := by
  unfold k0_pay2
  pointwise
  refine congrArg (fun z => x0 (ix4 b s ⟨d.val / 64, by omega⟩ ⟨d.val % 64, by omega⟩) + z * x2 (ix3 b s ⟨d.val / 64, by omega⟩)) (Finset.sum_congr rfl fun k _ => ?_)
  have hx : ∀ (u u' : Fin 48) (a a' : Fin 112) (r r' : Fin 64), u.val = u'.val → a.val = a'.val → r.val = r'.val →
      x1 (ix3 u s k) * (x4 (ix4 b a r k) * x5 (ix3 b a k)) = x1 (ix3 u' s k) * (x4 (ix4 b a' r' k) * x5 (ix3 b a' k)) := by
    intro u u' a a' r r' h1 h2 h3
    rw [Fin.ext h1, Fin.ext h2, Fin.ext h3]
  refine hx _ _ _ _ _ _ ?_ ?_ ?_
  · show b.val * 8 + d.val / 64 / 14 = 8 * b.val + d.val / 896
    omega
  · show (b.val * 8 + d.val / 64 / 14) % 8 * 14 + (d.val / 64 % 14 * 64 + d.val % 64) / 64 = d.val / 64
    omega
  · show (d.val / 64 % 14 * 64 + d.val % 64) % 64 = d.val % 64
    omega

theorem pay4_at (P : FVec Ideal S6x112x64x256 .f32) (x : Vec Ideal S6x112x64x256 .f32) (i : S6x112x64x256.Idx) : k0_pay4 P x i = P i + x i := by
  unfold k0_pay4
  rfl

theorem stAt_eq (t : Fin cfg0.N) (b : Fin 6) (h : Fin 112) (p : Fin 64) (k : Fin 256) :
    k0_pay3 (X4 m c t) (X5 m c t) (X3 m c t) (ix4 b h p k) + X6 m c t (ix4 b h p k) = Spec.stAt (A2 m c) (A3 m c) (A4 m c) (A5 m c) (A6 m c) b h p k := by
  rw [pay3_at, blk4, blk5, blk6, blk3, V11, decay_at]
  rfl

theorem mxAt_eq (t : Fin cfg0.N) (b : Fin 6) (h : Fin 112) (k : Fin 256) :
    k0_pay5 (k0_pay3 (X4 m c t) (X5 m c t) (X3 m c t)) (X6 m c t) (ix3 b h k) = Spec.mxAt (A2 m c) (A3 m c) (A4 m c) (A5 m c) (A6 m c) b h k := by
  rw [pay5_at]
  unfold Spec.mxAt
  refine congrArg (fun f => Finset.fold max (Ideal.ofBits .f32 0xFF800000#32) f Finset.univ) (funext fun p => ?_)
  rw [stAt_eq]

theorem out7 (t : Fin cfg0.N) (b : Fin 6) (s : Fin 4096) (d : Fin 7168) : k0_pay2 (X4 m c t) (X5 m c t) (X1 m c t) (X0 m c t) (X2 m c t) (ix3 b s d) = Spec.ySpec (A0 m c) (A1 m c) (A2 m c) (A3 m c) (A4 m c) (A5 m c) (ix3 b s d) := by
  rw [pay2_at, blk0, blk1, blk2, blk4, blk5, V7, decay_at]
  have h9 : ∀ k : Fin 256, (V m c main_v9 : FVec Ideal S48x4096x256 .bf16) (ix3 ⟨8 * b.val + d.val / 896, by omega⟩ s k) = A1 m c (ix4 b s ⟨d.val / 64 / 14, by omega⟩ k) := fun k =>
    (congrArg (fun u : Fin 48 => (V m c main_v9 : FVec Ideal S48x4096x256 .bf16) (ix3 u s k)) (Fin.ext (by show 8 * b.val + d.val / 896 = 8 * b.val + d.val / 64 / 14; omega))).trans (V9 m c b ⟨d.val / 64 / 14, by omega⟩ s k)
  simp only [h9]
  rfl

theorem out8 (t : Fin cfg0.N) (b : Fin 6) (d : Fin 7168) (k : Fin 256) : k0_pay1 (k0_pay4 (k0_pay3 (X4 m c t) (X5 m c t) (X3 m c t)) (X6 m c t)) (k0_pay6 (k0_pay3 (X4 m c t) (X5 m c t) (X3 m c t)) (X6 m c t)) (k0_pay8 (k0_pay3 (X4 m c t) (X5 m c t) (X3 m c t)) (X6 m c t)) (Ideal.ofBits .f32 0x7F800000#32) (ix3 b d k)
    = Spec.qSpec (A2 m c) (A3 m c) (A4 m c) (A5 m c) (A6 m c) (ix3 b d k) := by
  rw [pay1_at, pay4_at, stAt_eq, pay8_at, mxAt_eq, (KernelIdeal.Hand.scales_eq _).2]
  rfl

theorem out9 (t : Fin cfg0.N) (b : Fin 6) (h : Fin 112) (k : Fin 256) : k0_pay9 (k0_pay3 (X4 m c t) (X5 m c t) (X3 m c t)) (X6 m c t) (ix3 b h k) = Spec.rSpec (A2 m c) (A3 m c) (A4 m c) (A5 m c) (A6 m c) (ix3 b h k) := by
  rw [pay9_at, mxAt_eq, (KernelIdeal.Hand.scales_eq _).1]
  rfl

end Cert.ReferenceIdeal.Hand
-- ==== Proof.RefFinal.lean ====
/- The three result arrays after the reference's run, as functions of the arguments. -/
module

public import proofs.«01_k».proof.Proof.Gen.ReferenceIdeal.Frame
public import Idealize.ShloMosaic.Lib.Pipeline.ValueKit
public import Idealize.ShloMosaic.Lib.Claim
public import Idealize.ShloMosaic.Lib.StableHlo.ReadAt
public import proofs.«01_k».proof.Proof.RefVal

@[expose] public section

set_option maxRecDepth 16384

noncomputable section

namespace Cert.ReferenceIdeal.Hand

open Idealize.ShloMosaic Idealize.ShloMosaic.TcCoe Idealize.ShloMosaic.Tactic Idealize.ShloMosaic.Pointwise
open Idealize.SL.Sem
open Idealize.ShloMosaic.Pipeline (Dat)
open Cert.ReferenceIdeal Cert.ReferenceIdeal.Gen

variable (m : (ℓ : Loc nD τ sig) → Buf (Elt Ideal) ℓ) (c : Dev nD)

theorem final9 : (dats m 0 c).arrAt 9 cfg0.N = Spec.rSpec (A2 m c) (A3 m c) (A4 m c) (A5 m c) (A6 m c) := by
  refine (dats m 0 c).arrAt_eq_of_covers 9 _ (by decide +kernel) fun t hf y => ?_
  blk_simp
  rw [after0_9]
  unfold out0_9 k0_pay10
  frame_out
  obtain ⟨b, h, k, rfl⟩ : ∃ (b : Fin 6) (h : Fin 112) (k : Fin 256), y = ix3 b h k := ⟨y 0, y 1, y 2, eq_ix3 y⟩
  refine (out9 m c t b h k).trans (congrArg _ ?_)
  blk_ext [idx t]

theorem final8 : (dats m 0 c).arrAt 8 cfg0.N = Spec.qSpec (A2 m c) (A3 m c) (A4 m c) (A5 m c) (A6 m c) := by
  refine (dats m 0 c).arrAt_eq_of_covers 8 _ (by decide +kernel) fun t hf y => ?_
  blk_simp
  rw [after0_8]
  unfold out0_8 k0_pay10
  frame_out
  obtain ⟨b, d, k, rfl⟩ : ∃ (b : Fin 6) (d : Fin 7168) (k : Fin 256), y = ix3 b d k := ⟨y 0, y 1, y 2, eq_ix3 y⟩
  refine (out8 m c t b d k).trans (congrArg _ ?_)
  blk_ext [idx t]

theorem final7 : (dats m 0 c).arrAt 7 cfg0.N = Spec.ySpec (A0 m c) (A1 m c) (A2 m c) (A3 m c) (A4 m c) (A5 m c) := by
  refine (dats m 0 c).arrAt_eq_of_covers 7 _ (by decide +kernel) fun t hf y => ?_
  blk_simp
  rw [after0_7]
  frame_out
  obtain ⟨b, s, d, rfl⟩ : ∃ (b : Fin 6) (s : Fin 4096) (d : Fin 7168), y = ix3 b s d := ⟨y 0, y 1, y 2, eq_ix3 y⟩
  refine (out7 m c t b s d).trans (congrArg _ ?_)
  blk_ext [idx t]

end Cert.ReferenceIdeal.Hand
-- ==== Proof.lean ====
module

public import Idealize.ShloMosaic.Lib.Bf16Pair
public import proofs.«01_k».proof.Defs
public import proofs.«01_k».proof.Proof.KernelFrame
public import proofs.«01_k».proof.Proof.KernelFinal
public import proofs.«01_k».proof.Proof.RefFinal

@[expose] public section

open Idealize.ShloMosaic
open Idealize.SL.Sem

namespace Cert.KernelIdeal.Hand

open Cert.KernelIdeal Cert.KernelIdeal.Gen

variable (m : (ℓ : Loc nD τ sig) → Buf (Elt Ideal) ℓ) (ρ : Dev nD → PrngReg)

/-- The idealized kernel ends with the three specified arrays. -/
theorem run_results : θ_run (defs (F := Ideal)) (onTc (τ := τ) (main (F := Ideal))) ⟨m, fun _ => 0, ρ⟩ (fun r => ∀ c : Dev nD,
    r.2.mem ((c.tc : Thread nD τ).loc main_v4_0) = Spec.ySpec (A0 m c) (A1 m c) (A2 m c) (A3 m c) (A4 m c) (A5 m c)
    ∧ r.2.mem ((c.tc : Thread nD τ).loc main_v4_1) = Spec.qSpec (A2 m c) (A3 m c) (A4 m c) (A5 m c) (A6 m c)
    ∧ r.2.mem ((c.tc : Thread nD τ).loc main_v4_2) = Spec.rSpec (A2 m c) (A3 m c) (A4 m c) (A5 m c) (A6 m c)) :=
  (θ_run defs _ _).mono (fun _ h c => ⟨((h c).1 8).trans (final8 m c), ((h c).1 9).trans (final9 m c), ((h c).1 10).trans (final10 m c)⟩) (run_main m ρ)

end Cert.KernelIdeal.Hand

namespace Cert.ReferenceIdeal.Hand

open Cert.ReferenceIdeal Cert.ReferenceIdeal.Gen

variable (m : (ℓ : Loc nD τ sig) → Buf (Elt Ideal) ℓ) (ρ : Dev nD → PrngReg)

/-- The reference ends with the same three arrays. -/
theorem run_results : θ_run (defs (F := Ideal)) (onTc (τ := τ) (main (F := Ideal))) ⟨m, fun _ => 0, ρ⟩ (fun r => ∀ c : Dev nD,
    r.2.mem ((c.tc : Thread nD τ).loc main_v12_0) = Spec.ySpec (A0 m c) (A1 m c) (A2 m c) (A3 m c) (A4 m c) (A5 m c)
    ∧ r.2.mem ((c.tc : Thread nD τ).loc main_v12_1) = Spec.qSpec (A2 m c) (A3 m c) (A4 m c) (A5 m c) (A6 m c)
    ∧ r.2.mem ((c.tc : Thread nD τ).loc main_v12_2) = Spec.rSpec (A2 m c) (A3 m c) (A4 m c) (A5 m c) (A6 m c)) :=
  (θ_run defs _ _).mono (fun _ h c => ⟨((h c).1 7).trans (final7 m c), ((h c).1 8).trans (final8 m c), ((h c).1 9).trans (final9 m c)⟩) (run_main m ρ)

end Cert.ReferenceIdeal.Hand

namespace Cert.Proof

/-- Kernel and reference end with equal results at the ideal instance. -/
theorem algebraic : letI := Cert.KernelIdeal.Gen.facts; letI := Cert.ReferenceIdeal.Gen.facts; Cert.algebraic_KernelIdeal_ReferenceIdeal := by
  intro m g m' g' _ hA
  refine ⟨_, _, _, (θ_run _ _ _).mono (fun r h c => ⟨(h.1 c).1, (h.1 c).2.1, (h.1 c).2.2, h.2 c⟩)
      (θ_run_and (Cert.KernelIdeal.Hand.run_results m g) (Cert.KernelIdeal.Hand.unchanged m g)),
    (θ_run _ _ _).mono (fun r h c => ⟨(h.1 c).1.trans ?_, (h.1 c).2.1.trans ?_, (h.1 c).2.2.trans ?_, h.2 c⟩)
      (θ_run_and (Cert.ReferenceIdeal.Hand.run_results m' g') (Cert.ReferenceIdeal.Gen.unchanged m' g'))⟩
  all_goals obtain ⟨h0, h1, h2, h3, h4, h5, h6⟩ := hA c
  · unfold Cert.ReferenceIdeal.Hand.A0 Cert.ReferenceIdeal.Hand.A1 Cert.ReferenceIdeal.Hand.A2 Cert.ReferenceIdeal.Hand.A3 Cert.ReferenceIdeal.Hand.A4 Cert.ReferenceIdeal.Hand.A5
    rw [h0, h1, h2, h3, h4, h5]
  · unfold Cert.ReferenceIdeal.Hand.A2 Cert.ReferenceIdeal.Hand.A3 Cert.ReferenceIdeal.Hand.A4 Cert.ReferenceIdeal.Hand.A5 Cert.ReferenceIdeal.Hand.A6
    rw [h2, h3, h4, h5, h6]
  · unfold Cert.ReferenceIdeal.Hand.A2 Cert.ReferenceIdeal.Hand.A3 Cert.ReferenceIdeal.Hand.A4 Cert.ReferenceIdeal.Hand.A5 Cert.ReferenceIdeal.Hand.A6
    rw [h2, h3, h4, h5, h6]

/-- The claim. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, fun m ρ _ => Cert.ReferenceIdeal.Gen.frame m ρ,
    ⟨IdealRules.bf16_pair.statement _ _, IdealRules.bf16_pair.statement _ _⟩, algebraic⟩

end Cert.Proof

end
